-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_products_KernelIdeal [hPre_small_products_KernelIdeal : Cert.Pre_small_products_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_products_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_products_ReferenceIdeal [hPre_small_products_ReferenceIdeal : Cert.Pre_small_products_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_products_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_products_KernelIdeal [hKernelIdeal : Cert.KernelIdeal.Facts] [hPre_small_products_KernelIdeal : Cert.Pre_small_products_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_products_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_products_ReferenceIdeal [hReferenceIdeal : Cert.ReferenceIdeal.Facts] [hPre_small_products_ReferenceIdeal : Cert.Pre_small_products_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_products_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_small_products_KernelIdeal [hKernelIdeal : Cert.KernelIdeal.Facts] [hReferenceIdeal : Cert.ReferenceIdeal.Facts] [hPre_small_products_KernelIdeal : Cert.Pre_small_products_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_products_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_small_products_KernelIdeal : Cert.Pre_small_products_KernelIdeal.Facts) (hPre_small_products_ReferenceIdeal : Cert.Pre_small_products_ReferenceIdeal.Facts),
    quiescent_Kernel (hKernel := hKernel)
    ∧ quiescent_KernelIdeal (hKernelIdeal := hKernelIdeal)
    ∧ quiescent_KernelIdeal_pre_small_products_KernelIdeal (hKernelIdeal := hKernelIdeal) (hPre_small_products_KernelIdeal := hPre_small_products_KernelIdeal)
    ∧ quiescent_ReferenceIdeal (hReferenceIdeal := hReferenceIdeal)
    ∧ quiescent_ReferenceIdeal_pre_small_products_ReferenceIdeal (hReferenceIdeal := hReferenceIdeal) (hPre_small_products_ReferenceIdeal := hPre_small_products_ReferenceIdeal)
    ∧ quiescent_UnclippedIdeal (hUnclippedIdeal := hUnclippedIdeal)
    ∧ preserves_Kernel_KernelIdeal
    ∧ algebraic_KernelIdeal_ReferenceIdeal_pre_small_products_KernelIdeal (hKernelIdeal := hKernelIdeal) (hReferenceIdeal := hReferenceIdeal) (hPre_small_products_KernelIdeal := hPre_small_products_KernelIdeal)
    ∧ algebraic_KernelIdeal_UnclippedIdeal (hKernelIdeal := hKernelIdeal) (hUnclippedIdeal := hUnclippedIdeal)
-- ==== Pre_small_products_KernelIdeal.lean ====
abbrev S2048x128 : Shape := ⟨2, ![2048, 128]⟩
abbrev S128x2048 : Shape := ⟨2, ![128, 2048]⟩
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x128_S128x2048_S2048x2048_1_0_0_1_n_n_wf : DotDims.WF S2048x128 S128x2048 S2048x2048 [1] [0] [0] [1] [] []

variable [Facts]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf
def fn {F : FTy → Type} [FloatOps F] (main_arg0 : FVec F S2048x128 .bf16) (main_arg1 : FVec F S128x2048 .bf16) : IVec S2048x2048 1 :=
  let main_v0 : FVec F S2048x2048 .f32 := (fun l r => Host.dotGeneral dot_S2048x128_S128x2048_S2048x2048_1_0_0_1_n_n none l r) main_arg0 main_arg1
  let main_v1 : FVec F S2048x2048 .f32 := Host.absf main_v0
  let main_cst : FVec F S_ .f32 := constant S_ .f32 0x40700000#32
  let main_v2 : FVec F S2048x2048 .f32 := broadcastInDim S2048x2048 ![] bcast_S_S2048x2048 main_cst
  let main_v3 : IVec S2048x2048 1 := cmpf .ole main_v1 main_v2
  main_v3
-- ==== Pre_small_products_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .bf16) (main_arg1 : FVec F S2048x2048 .bf16) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x40700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S2048x128 : Shape := ⟨2, ![2048, 128]⟩
abbrev S128x2048 : Shape := ⟨2, ![128, 2048]⟩
abbrev S2048x2048 : Shape := ⟨2, ![2048, 2048]⟩
abbrev S8x128x2048 : Shape := ⟨3, ![8, 128, 2048]⟩
abbrev S2 : Shape := ⟨1, ![2]⟩
abbrev S8x2 : Shape := ⟨2, ![8, 2]⟩
abbrev S_ : Shape := ⟨0, ![]⟩
abbrev S128x128 : Shape := ⟨2, ![128, 128]⟩
abbrev S128x1024 : Shape := ⟨2, ![128, 1024]⟩
abbrev S1 : Shape := ⟨1, ![1]⟩
abbrev S1x1 : Shape := ⟨2, ![1, 1]⟩
abbrev S1x128x1024 : Shape := ⟨3, ![1, 128, 1024]⟩

abbrev nBuf : Space → Nat
  | .hbm => 3
  | .vmem => 10
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S2048x2048, .f32⟩
  | .local _ .vmem, ⟨0, _⟩ => ⟨S2048x128, .bf16⟩
  | .local _ .vmem, ⟨1, _⟩ => ⟨S128x2048, .bf16⟩
  | .local _ .vmem, ⟨2, _⟩ => ⟨S2048x2048, .f32⟩
  | .local _ .vmem, ⟨3, _⟩ => ⟨S2048x2048, .bf16⟩
  | .local _ .vmem, ⟨4, _⟩ => ⟨S128x2048, .bf16⟩
  | .local _ .vmem, ⟨5, _⟩ => ⟨S128x2048, .bf16⟩
  | .local _ .vmem, ⟨6, _⟩ => ⟨S8x128x2048, .bf16⟩
  | .local _ .vmem, ⟨7, _⟩ => ⟨S8x128x2048, .bf16⟩
  | .local _ .vmem, ⟨8, _⟩ => ⟨S8x128x2048, .bf16⟩
  | .local _ .vmem, ⟨9, _⟩ => ⟨S8x128x2048, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_68 : BitVec 32 := 1#32
  let v130 : BitVec 32 := Scalar.muli v83 c1_i32_68
  let v131 : BitVec 32 := Scalar.addi c0_i32_69 v130
  v131.toNat
def k0_dev2 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_71 : BitVec 32 := 1#32
  let v132 : BitVec 32 := Scalar.muli v128 c1_i32_71
  let v133 : BitVec 32 := Scalar.addi c0_i32_72 v132
  v133.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_74 : BitVec 32 := 8#32
  let v134 : BitVec 32 := Scalar.addi v38 c8_i32_74
  let c32_i32_75 : BitVec 32 := 32#32
  let v135 : BitVec 32 := Scalar.addi v134 c32_i32_75
  let c16_i32_76 : BitVec 32 := 16#32
  let v136 : BitVec 32 := Scalar.remsi v135 c16_i32_76
  let c128_i32 : BitVec 32 := 128#32
  let v137 : BitVec 32 := Scalar.muli v136 c128_i32
  let v138 : Index := Scalar.indexCast v137
  let c0 : Index := 0#32
  ![v138.toNat, 0]
def k0_dev3 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_85 : BitVec 32 := 1#32
  let v149 : BitVec 32 := Scalar.muli v128 c1_i32_85
  let v150 : BitVec 32 := Scalar.addi c0_i32_86 v149
  v150.toNat
def k0_dev4 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_96 : BitVec 32 := 1#32
  let v163 : BitVec 32 := Scalar.muli v83 c1_i32_96
  let v164 : BitVec 32 := Scalar.addi c0_i32_97 v163
  v164.toNat
def k0_off2 (d0 : Dev nD) (c1_i32_113 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_112 : BitVec 32 := 8#32
  let v184 : BitVec 32 := Scalar.addi v38 c8_i32_112
  let v185 : BitVec 32 := Scalar.subi v184 c1_i32_113
  let c32_i32_114 : BitVec 32 := 32#32
  let v186 : BitVec 32 := Scalar.addi v185 c32_i32_114
  let c16_i32_115 : BitVec 32 := 16#32
  let v187 : BitVec 32 := Scalar.remsi v186 c16_i32_115
  let c128_i32_142 : BitVec 32 := 128#32
  let v206 : BitVec 32 := Scalar.muli v187 c128_i32_142
  let v207 : Index := Scalar.indexCast v206
  let c0_143 : Index := 0#32
  ![v207.toNat, 0]
def k0_dev5 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_150 : BitVec 32 := 1#32
  let v213 : BitVec 32 := Scalar.muli v128 c1_i32_150
  let v214 : BitVec 32 := Scalar.addi c0_i32_151 v213
  v214.toNat
def k0_off3 (d0 : Dev nD) (c1_i32_117 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_116 : BitVec 32 := 8#32
  let v188 : BitVec 32 := Scalar.subi v38 c8_i32_116
  let v189 : BitVec 32 := Scalar.addi v188 c1_i32_117
  let c32_i32_118 : BitVec 32 := 32#32
  let v190 : BitVec 32 := Scalar.addi v189 c32_i32_118
  let c16_i32_119 : BitVec 32 := 16#32
  let v191 : BitVec 32 := Scalar.remsi v190 c16_i32_119
  let c128_i32_156 : BitVec 32 := 128#32
  let v222 : BitVec 32 := Scalar.muli v191 c128_i32_156
  let v223 : Index := Scalar.indexCast v222
  let c0_157 : Index := 0#32
  ![v223.toNat, 0]
def k0_dev6 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_164 : BitVec 32 := 1#32
  let v228 : BitVec 32 := Scalar.muli v83 c1_i32_164
  let v229 : BitVec 32 := Scalar.addi c0_i32_165 v228
  v229.toNat
def k0_off4 (d0 : Dev nD) (c1_i32_113 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_112 : BitVec 32 := 8#32
  let v184 : BitVec 32 := Scalar.addi v38 c8_i32_112
  let v185 : BitVec 32 := Scalar.subi v184 c1_i32_113
  let c32_i32_114 : BitVec 32 := 32#32
  let v186 : BitVec 32 := Scalar.addi v185 c32_i32_114
  let c16_i32_115 : BitVec 32 := 16#32
  let v187 : BitVec 32 := Scalar.remsi v186 c16_i32_115
  let c128_i32_170 : BitVec 32 := 128#32
  let v237 : BitVec 32 := Scalar.muli v187 c128_i32_170
  let v238 : Index := Scalar.indexCast v237
  let c1024_171 : Index := 1024#32
  ![v238.toNat, 1024]
def k0_dev7 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_178 : BitVec 32 := 1#32
  let v243 : BitVec 32 := Scalar.muli v128 c1_i32_178
  let v244 : BitVec 32 := Scalar.addi c0_i32_179 v243
  v244.toNat
def k0_off5 (d0 : Dev nD) (c1_i32_117 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c8_i32_116 : BitVec 32 := 8#32
  let v188 : BitVec 32 := Scalar.subi v38 c8_i32_116
  let v189 : BitVec 32 := Scalar.addi v188 c1_i32_117
  let c32_i32_118 : BitVec 32 := 32#32
  let v190 : BitVec 32 := Scalar.addi v189 c32_i32_118
  let c16_i32_119 : BitVec 32 := 16#32
  let v191 : BitVec 32 := Scalar.remsi v190 c16_i32_119
  let c128_i32_206 : BitVec 32 := 128#32
  let v266 : BitVec 32 := Scalar.muli v191 c128_i32_206
  let v267 : Index := Scalar.indexCast v266
  let c1024_207 : Index := 1024#32
  ![v267.toNat, 1024]
def k0_dev8 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_214 : BitVec 32 := 1#32
  let v273 : BitVec 32 := Scalar.muli v83 c1_i32_214
  let v274 : BitVec 32 := Scalar.addi c0_i32_215 v273
  v274.toNat
def k0_dev9 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_257 : BitVec 32 := 1#32
  let v311 : BitVec 32 := Scalar.muli v128 c1_i32_257
  let v312 : BitVec 32 := Scalar.addi c0_i32_258 v311
  v312.toNat
def k0_dev10 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_293 : BitVec 32 := 1#32
  let v341 : BitVec 32 := Scalar.muli v83 c1_i32_293
  let v342 : BitVec 32 := Scalar.addi c0_i32_294 v341
  v342.toNat
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_329 : BitVec 32 := 1#32
  let v371 : BitVec 32 := Scalar.muli v128 c1_i32_329
  let v372 : BitVec 32 := Scalar.addi c0_i32_330 v371
  v372.toNat
def k0_dev12 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_365 : BitVec 32 := 1#32
  let v401 : BitVec 32 := Scalar.muli v83 c1_i32_365
  let v402 : BitVec 32 := Scalar.addi c0_i32_366 v401
  v402.toNat
def k0_dev13 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_408 : BitVec 32 := 1#32
  let v439 : BitVec 32 := Scalar.muli v128 c1_i32_408
  let v440 : BitVec 32 := Scalar.addi c0_i32_409 v439
  v440.toNat
def k0_dev14 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_444 : BitVec 32 := 1#32
  let v469 : BitVec 32 := Scalar.muli v83 c1_i32_444
  let v470 : BitVec 32 := Scalar.addi c0_i32_445 v469
  v470.toNat
def k0_dev15 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_480 : BitVec 32 := 1#32
  let v499 : BitVec 32 := Scalar.muli v128 c1_i32_480
  let v500 : BitVec 32 := Scalar.addi c0_i32_481 v499
  v500.toNat
def k0_dev16 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_516 : BitVec 32 := 1#32
  let v529 : BitVec 32 := Scalar.muli v83 c1_i32_516
  let v530 : BitVec 32 := Scalar.addi c0_i32_517 v529
  v530.toNat
def k0_dev17 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_559 : BitVec 32 := 1#32
  let v567 : BitVec 32 := Scalar.muli v128 c1_i32_559
  let v568 : BitVec 32 := Scalar.addi c0_i32_560 v567
  v568.toNat
def k0_dev18 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_595 : BitVec 32 := 1#32
  let v597 : BitVec 32 := Scalar.muli v83 c1_i32_595
  let v598 : BitVec 32 := Scalar.addi c0_i32_596 v597
  v598.toNat
def k0_dev19 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_631 : BitVec 32 := 1#32
  let v627 : BitVec 32 := Scalar.muli v128 c1_i32_631
  let v628 : BitVec 32 := Scalar.addi c0_i32_632 v627
  v628.toNat
def k0_dev20 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_667 : BitVec 32 := 1#32
  let v657 : BitVec 32 := Scalar.muli v83 c1_i32_667
  let v658 : BitVec 32 := Scalar.addi c0_i32_668 v657
  v658.toNat
def k0_dev21 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_709 : BitVec 32 := 1#32
  let v695 : BitVec 32 := Scalar.muli v128 c1_i32_709
  let v696 : BitVec 32 := Scalar.addi c0_i32_710 v695
  v696.toNat
def k0_dev22 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_745 : BitVec 32 := 1#32
  let v725 : BitVec 32 := Scalar.muli v83 c1_i32_745
  let v726 : BitVec 32 := Scalar.addi c0_i32_746 v725
  v726.toNat
def k0_dev23 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_781 : BitVec 32 := 1#32
  let v755 : BitVec 32 := Scalar.muli v128 c1_i32_781
  let v756 : BitVec 32 := Scalar.addi c0_i32_782 v755
  v756.toNat
def k0_dev24 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_817 : BitVec 32 := 1#32
  let v785 : BitVec 32 := Scalar.muli v83 c1_i32_817
  let v786 : BitVec 32 := Scalar.addi c0_i32_818 v785
  v786.toNat
def k0_dev25 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_859 : BitVec 32 := 1#32
  let v823 : BitVec 32 := Scalar.muli v128 c1_i32_859
  let v824 : BitVec 32 := Scalar.addi c0_i32_860 v823
  v824.toNat
def k0_dev26 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_895 : BitVec 32 := 1#32
  let v853 : BitVec 32 := Scalar.muli v83 c1_i32_895
  let v854 : BitVec 32 := Scalar.addi c0_i32_896 v853
  v854.toNat
def k0_dev27 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_931 : BitVec 32 := 1#32
  let v883 : BitVec 32 := Scalar.muli v128 c1_i32_931
  let v884 : BitVec 32 := Scalar.addi c0_i32_932 v883
  v884.toNat
def k0_dev28 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_967 : BitVec 32 := 1#32
  let v913 : BitVec 32 := Scalar.muli v83 c1_i32_967
  let v914 : BitVec 32 := Scalar.addi c0_i32_968 v913
  v914.toNat
def k0_dev29 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1010 : BitVec 32 := 1#32
  let v951 : BitVec 32 := Scalar.muli v128 c1_i32_1010
  let v952 : BitVec 32 := Scalar.addi c0_i32_1011 v951
  v952.toNat
def k0_dev30 (d0 : Dev nD) : Nat :=
  let c0_i32_1047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1046 : BitVec 32 := 1#32
  let v981 : BitVec 32 := Scalar.muli v83 c1_i32_1046
  let v982 : BitVec 32 := Scalar.addi c0_i32_1047 v981
  v982.toNat
def k0_dev31 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1082 : BitVec 32 := 1#32
  let v1011 : BitVec 32 := Scalar.muli v128 c1_i32_1082
  let v1012 : BitVec 32 := Scalar.addi c0_i32_1083 v1011
  v1012.toNat
def k0_dev32 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1118 : BitVec 32 := 1#32
  let v1041 : BitVec 32 := Scalar.muli v83 c1_i32_1118
  let v1042 : BitVec 32 := Scalar.addi c0_i32_1119 v1041
  v1042.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c128_i32_1124 : BitVec 32 := 128#32
  let v1050 : BitVec 32 := Scalar.muli v38 c128_i32_1124
  let v1065 : Index := Scalar.indexCast v1050
  let c0_1145 : Index := 0#32
  ![v1065.toNat, 0]
def k0_dev33 (d0 : Dev nD) : Nat :=
  let c0_i32_1182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1181 : BitVec 32 := 1#32
  let v1103 : BitVec 32 := Scalar.muli v128 c1_i32_1181
  let v1104 : BitVec 32 := Scalar.addi c0_i32_1182 v1103
  v1104.toNat
def k0_dev34 (d0 : Dev nD) : Nat :=
  let c0_i32_1192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1191 : BitVec 32 := 1#32
  let v1112 : BitVec 32 := Scalar.muli v83 c1_i32_1191
  let v1113 : BitVec 32 := Scalar.addi c0_i32_1192 v1112
  v1113.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c128_i32_1124 : BitVec 32 := 128#32
  let v1050 : BitVec 32 := Scalar.muli v38 c128_i32_1124
  let v1135 : Index := Scalar.indexCast v1050
  let c1024_1217 : Index := 1024#32
  ![v1135.toNat, 1024]
def k0_dev35 (d0 : Dev nD) : Nat :=
  let c0_i32_1255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1254 : BitVec 32 := 1#32
  let v1173 : BitVec 32 := Scalar.muli v128 c1_i32_1254
  let v1174 : BitVec 32 := Scalar.addi c0_i32_1255 v1173
  v1174.toNat
def k0_dev36 (d0 : Dev nD) : Nat :=
  let c0_i32_1265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1264 : BitVec 32 := 1#32
  let v1182 : BitVec 32 := Scalar.muli v83 c1_i32_1264
  let v1183 : BitVec 32 := Scalar.addi c0_i32_1265 v1182
  v1183.toNat
def k0_dev37 (d0 : Dev nD) : Nat :=
  let c0_i32_1295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1294 : BitVec 32 := 1#32
  let v1203 : BitVec 32 := Scalar.muli v128 c1_i32_1294
  let v1204 : BitVec 32 := Scalar.addi c0_i32_1295 v1203
  v1204.toNat
def k0_dev38 (d0 : Dev nD) : Nat :=
  let c0_i32_1325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1324 : BitVec 32 := 1#32
  let v1225 : BitVec 32 := Scalar.muli v83 c1_i32_1324
  let v1226 : BitVec 32 := Scalar.addi c0_i32_1325 v1225
  v1226.toNat
def k0_dev39 (d0 : Dev nD) : Nat :=
  let c0_i32_1355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1354 : BitVec 32 := 1#32
  let v1247 : BitVec 32 := Scalar.muli v128 c1_i32_1354
  let v1248 : BitVec 32 := Scalar.addi c0_i32_1355 v1247
  v1248.toNat
def k0_dev40 (d0 : Dev nD) : Nat :=
  let c0_i32_1385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1384 : BitVec 32 := 1#32
  let v1269 : BitVec 32 := Scalar.muli v83 c1_i32_1384
  let v1270 : BitVec 32 := Scalar.addi c0_i32_1385 v1269
  v1270.toNat
def k0_off8 (d0 : Dev nD) (c1_i32_1393 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v1282 : BitVec 32 := Scalar.subi v38 c1_i32_1393
  let c32_i32_1394 : BitVec 32 := 32#32
  let v1283 : BitVec 32 := Scalar.addi v1282 c32_i32_1394
  let c16_i32_1395 : BitVec 32 := 16#32
  let v1284 : BitVec 32 := Scalar.remsi v1283 c16_i32_1395
  let c128_i32_1396 : BitVec 32 := 128#32
  let v1285 : BitVec 32 := Scalar.muli v1284 c128_i32_1396
  let v1286 : Index := Scalar.indexCast v1285
  let c0_1397 : Index := 0#32
  ![v1286.toNat, 0]
def k0_off9 (d0 : Dev nD) (c1_i32_1401 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v1291 : BitVec 32 := Scalar.addi v38 c1_i32_1401
  let c32_i32_1402 : BitVec 32 := 32#32
  let v1292 : BitVec 32 := Scalar.addi v1291 c32_i32_1402
  let c16_i32_1403 : BitVec 32 := 16#32
  let v1293 : BitVec 32 := Scalar.remsi v1292 c16_i32_1403
  let c128_i32_1404 : BitVec 32 := 128#32
  let v1294 : BitVec 32 := Scalar.muli v1293 c128_i32_1404
  let v1295 : Index := Scalar.indexCast v1294
  let c0_1405 : Index := 0#32
  ![v1295.toNat, 0]
def k0_off10 (d0 : Dev nD) (c1_i32_1409 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v1300 : BitVec 32 := Scalar.subi v38 c1_i32_1409
  let c32_i32_1410 : BitVec 32 := 32#32
  let v1301 : BitVec 32 := Scalar.addi v1300 c32_i32_1410
  let c16_i32_1411 : BitVec 32 := 16#32
  let v1302 : BitVec 32 := Scalar.remsi v1301 c16_i32_1411
  let c128_i32_1412 : BitVec 32 := 128#32
  let v1303 : BitVec 32 := Scalar.muli v1302 c128_i32_1412
  let v1304 : Index := Scalar.indexCast v1303
  let c1024_1413 : Index := 1024#32
  ![v1304.toNat, 1024]
def k0_off11 (d0 : Dev nD) (c1_i32_1417 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let v1309 : BitVec 32 := Scalar.addi v38 c1_i32_1417
  let c32_i32_1418 : BitVec 32 := 32#32
  let v1310 : BitVec 32 := Scalar.addi v1309 c32_i32_1418
  let c16_i32_1419 : BitVec 32 := 16#32
  let v1311 : BitVec 32 := Scalar.remsi v1310 c16_i32_1419
  let c128_i32_1420 : BitVec 32 := 128#32
  let v1312 : BitVec 32 := Scalar.muli v1311 c128_i32_1420
  let v1313 : Index := Scalar.indexCast v1312
  let c1024_1421 : Index := 1024#32
  ![v1313.toNat, 1024]
def k0_dev41 (d0 : Dev nD) : Nat :=
  let c0_i32_1449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1448 : BitVec 32 := 1#32
  let v1329 : BitVec 32 := Scalar.muli v128 c1_i32_1448
  let v1330 : BitVec 32 := Scalar.addi c0_i32_1449 v1329
  v1330.toNat
def k0_dev42 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1480 : BitVec 32 := 1#32
  let v1353 : BitVec 32 := Scalar.muli v83 c1_i32_1480
  let v1354 : BitVec 32 := Scalar.addi c0_i32_1481 v1353
  v1354.toNat
def k0_dev43 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1512 : BitVec 32 := 1#32
  let v1377 : BitVec 32 := Scalar.muli v128 c1_i32_1512
  let v1378 : BitVec 32 := Scalar.addi c0_i32_1513 v1377
  v1378.toNat
def k0_dev44 (d0 : Dev nD) : Nat :=
  let c0_i32_1545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1544 : BitVec 32 := 1#32
  let v1401 : BitVec 32 := Scalar.muli v83 c1_i32_1544
  let v1402 : BitVec 32 := Scalar.addi c0_i32_1545 v1401
  v1402.toNat
def k0_dev45 (d0 : Dev nD) : Nat :=
  let c0_i32_1609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1608 : BitVec 32 := 1#32
  let v1461 : BitVec 32 := Scalar.muli v128 c1_i32_1608
  let v1462 : BitVec 32 := Scalar.addi c0_i32_1609 v1461
  v1462.toNat
def k0_dev46 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1640 : BitVec 32 := 1#32
  let v1485 : BitVec 32 := Scalar.muli v83 c1_i32_1640
  let v1486 : BitVec 32 := Scalar.addi c0_i32_1641 v1485
  v1486.toNat
def k0_dev47 (d0 : Dev nD) : Nat :=
  let c0_i32_1673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1672 : BitVec 32 := 1#32
  let v1509 : BitVec 32 := Scalar.muli v128 c1_i32_1672
  let v1510 : BitVec 32 := Scalar.addi c0_i32_1673 v1509
  v1510.toNat
def k0_dev48 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1704 : BitVec 32 := 1#32
  let v1533 : BitVec 32 := Scalar.muli v83 c1_i32_1704
  let v1534 : BitVec 32 := Scalar.addi c0_i32_1705 v1533
  v1534.toNat
def k0_dev49 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1768 : BitVec 32 := 1#32
  let v1593 : BitVec 32 := Scalar.muli v128 c1_i32_1768
  let v1594 : BitVec 32 := Scalar.addi c0_i32_1769 v1593
  v1594.toNat
def k0_dev50 (d0 : Dev nD) : Nat :=
  let c0_i32_1801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1800 : BitVec 32 := 1#32
  let v1617 : BitVec 32 := Scalar.muli v83 c1_i32_1800
  let v1618 : BitVec 32 := Scalar.addi c0_i32_1801 v1617
  v1618.toNat
def k0_dev51 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1832 : BitVec 32 := 1#32
  let v1641 : BitVec 32 := Scalar.muli v128 c1_i32_1832
  let v1642 : BitVec 32 := Scalar.addi c0_i32_1833 v1641
  v1642.toNat
def k0_dev52 (d0 : Dev nD) : Nat :=
  let c0_i32_1865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1864 : BitVec 32 := 1#32
  let v1665 : BitVec 32 := Scalar.muli v83 c1_i32_1864
  let v1666 : BitVec 32 := Scalar.addi c0_i32_1865 v1665
  v1666.toNat
def k0_dev53 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1928 : BitVec 32 := 1#32
  let v1725 : BitVec 32 := Scalar.muli v128 c1_i32_1928
  let v1726 : BitVec 32 := Scalar.addi c0_i32_1929 v1725
  v1726.toNat
def k0_dev54 (d0 : Dev nD) : Nat :=
  let c0_i32_1961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_1960 : BitVec 32 := 1#32
  let v1749 : BitVec 32 := Scalar.muli v83 c1_i32_1960
  let v1750 : BitVec 32 := Scalar.addi c0_i32_1961 v1749
  v1750.toNat
def k0_dev55 (d0 : Dev nD) : Nat :=
  let c0_i32_1993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_1992 : BitVec 32 := 1#32
  let v1773 : BitVec 32 := Scalar.muli v128 c1_i32_1992
  let v1774 : BitVec 32 := Scalar.addi c0_i32_1993 v1773
  v1774.toNat
def k0_dev56 (d0 : Dev nD) : Nat :=
  let c0_i32_2025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_2024 : BitVec 32 := 1#32
  let v1797 : BitVec 32 := Scalar.muli v83 c1_i32_2024
  let v1798 : BitVec 32 := Scalar.addi c0_i32_2025 v1797
  v1798.toNat
def k0_dev57 (d0 : Dev nD) : Nat :=
  let c0_i32_2089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_2088 : BitVec 32 := 1#32
  let v1857 : BitVec 32 := Scalar.muli v128 c1_i32_2088
  let v1858 : BitVec 32 := Scalar.addi c0_i32_2089 v1857
  v1858.toNat
def k0_dev58 (d0 : Dev nD) : Nat :=
  let c0_i32_2121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_2120 : BitVec 32 := 1#32
  let v1881 : BitVec 32 := Scalar.muli v83 c1_i32_2120
  let v1882 : BitVec 32 := Scalar.addi c0_i32_2121 v1881
  v1882.toNat
def k0_dev59 (d0 : Dev nD) : Nat :=
  let c0_i32_2153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_2152 : BitVec 32 := 1#32
  let v1905 : BitVec 32 := Scalar.muli v128 c1_i32_2152
  let v1906 : BitVec 32 := Scalar.addi c0_i32_2153 v1905
  v1906.toNat
def k0_dev60 (d0 : Dev nD) : Nat :=
  let c0_i32_2185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_2184 : BitVec 32 := 1#32
  let v1929 : BitVec 32 := Scalar.muli v83 c1_i32_2184
  let v1930 : BitVec 32 := Scalar.addi c0_i32_2185 v1929
  v1930.toNat
def k0_dev61 (d0 : Dev nD) : Nat :=
  let c0_i32_2249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_39 : BitVec 32 := 1#32
  let v84 : BitVec 32 := Scalar.addi v38 c1_i32_39
  let c32_i32_40 : BitVec 32 := 32#32
  let v85 : BitVec 32 := Scalar.addi v84 c32_i32_40
  let c16_i32_41 : BitVec 32 := 16#32
  let v86 : BitVec 32 := Scalar.remsi v85 c16_i32_41
  let c0_i32_43 : BitVec 32 := 0#32
  let v88 : BitVec 1 := Scalar.cmpi .sgt v86 c0_i32_43
  let v89 : BitVec 32 := Scalar.extui v88
  let c0_i32_44 : BitVec 32 := 0#32
  let v90 : BitVec 1 := Scalar.cmpi .slt v86 c0_i32_44
  let v91 : BitVec 32 := Scalar.extui v90
  let v92 : BitVec 32 := Scalar.subi v89 v91
  let c4_i32_42 : BitVec 32 := 4#32
  let c0_i32_45 : BitVec 32 := 0#32
  let v93 : BitVec 1 := Scalar.cmpi .sgt c4_i32_42 c0_i32_45
  let v94 : BitVec 32 := Scalar.extui v93
  let c0_i32_46 : BitVec 32 := 0#32
  let v95 : BitVec 1 := Scalar.cmpi .slt c4_i32_42 c0_i32_46
  let v96 : BitVec 32 := Scalar.extui v95
  let v97 : BitVec 32 := Scalar.subi v94 v96
  let v98 : BitVec 1 := Scalar.cmpi .ne v92 v97
  let v99 : BitVec 32 := Scalar.remsi v86 c4_i32_42
  let c0_i32_47 : BitVec 32 := 0#32
  let v100 : BitVec 1 := Scalar.cmpi .ne v99 c0_i32_47
  let v101 : BitVec 1 := Scalar.andi v98 v100
  let v87 : BitVec 32 := Scalar.divsi v86 c4_i32_42
  let c1_i32_48 : BitVec 32 := 1#32
  let v102 : BitVec 32 := Scalar.subi v87 c1_i32_48
  let v103 : BitVec 32 := Scalar.select v101 v102 v87
  let c0_i32_55 : BitVec 32 := 0#32
  let v114 : BitVec 1 := Scalar.cmpi .eq v103 c0_i32_55
  let c4_i32_56 : BitVec 32 := 4#32
  let c4_i32_49 : BitVec 32 := 4#32
  let c0_i32_50 : BitVec 32 := 0#32
  let v104 : BitVec 1 := Scalar.cmpi .eq c4_i32_49 c0_i32_50
  let c1_i32_51 : BitVec 32 := 1#32
  let v105 : BitVec 32 := Scalar.select v104 c1_i32_51 c4_i32_49
  let v106 : BitVec 32 := Scalar.remsi v86 v105
  let c0_i32_53 : BitVec 32 := 0#32
  let v108 : BitVec 1 := Scalar.cmpi .slt v106 c0_i32_53
  let c0_i32_54 : BitVec 32 := 0#32
  let v109 : BitVec 1 := Scalar.cmpi .slt v105 c0_i32_54
  let v110 : BitVec 1 := Scalar.xori v108 v109
  let c0_i32_52 : BitVec 32 := 0#32
  let v107 : BitVec 1 := Scalar.cmpi .ne v106 c0_i32_52
  let v111 : BitVec 1 := Scalar.andi v110 v107
  let v112 : BitVec 32 := Scalar.addi v106 v105
  let v113 : BitVec 32 := Scalar.select v111 v112 v106
  let v115 : BitVec 32 := Scalar.muli c4_i32_56 v113
  let c1_i32_57 : BitVec 32 := 1#32
  let v116 : BitVec 1 := Scalar.cmpi .eq v103 c1_i32_57
  let c4_i32_59 : BitVec 32 := 4#32
  let c3_i32_58 : BitVec 32 := 3#32
  let v117 : BitVec 32 := Scalar.subi c3_i32_58 v113
  let v118 : BitVec 32 := Scalar.muli c4_i32_59 v117
  let c1_i32_60 : BitVec 32 := 1#32
  let v119 : BitVec 32 := Scalar.addi v118 c1_i32_60
  let c2_i32_61 : BitVec 32 := 2#32
  let v120 : BitVec 1 := Scalar.cmpi .eq v103 c2_i32_61
  let c4_i32_62 : BitVec 32 := 4#32
  let v121 : BitVec 32 := Scalar.muli c4_i32_62 v113
  let c2_i32_63 : BitVec 32 := 2#32
  let v122 : BitVec 32 := Scalar.addi v121 c2_i32_63
  let c4_i32_65 : BitVec 32 := 4#32
  let c3_i32_64 : BitVec 32 := 3#32
  let v123 : BitVec 32 := Scalar.subi c3_i32_64 v113
  let v124 : BitVec 32 := Scalar.muli c4_i32_65 v123
  let c3_i32_66 : BitVec 32 := 3#32
  let v125 : BitVec 32 := Scalar.addi v124 c3_i32_66
  let v126 : BitVec 32 := Scalar.select v120 v122 v125
  let v127 : BitVec 32 := Scalar.select v116 v119 v126
  let v128 : BitVec 32 := Scalar.select v114 v115 v127
  let c1_i32_2248 : BitVec 32 := 1#32
  let v1989 : BitVec 32 := Scalar.muli v128 c1_i32_2248
  let v1990 : BitVec 32 := Scalar.addi c0_i32_2249 v1989
  v1990.toNat
def k0_dev62 (d0 : Dev nD) : Nat :=
  let c0_i32_2323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_12 : BitVec 32 := 1#32
  let v31 : BitVec 1 := Scalar.cmpi .eq v29 c1_i32_12
  let c7_i32 : BitVec 32 := 7#32
  let v32 : BitVec 32 := Scalar.subi c7_i32 v19
  let c2_i32 : BitVec 32 := 2#32
  let v33 : BitVec 1 := Scalar.cmpi .eq v29 c2_i32
  let c8_i32 : BitVec 32 := 8#32
  let v34 : BitVec 32 := Scalar.addi c8_i32 v19
  let c15_i32 : BitVec 32 := 15#32
  let v35 : BitVec 32 := Scalar.subi c15_i32 v19
  let v36 : BitVec 32 := Scalar.select v33 v34 v35
  let v37 : BitVec 32 := Scalar.select v31 v32 v36
  let v38 : BitVec 32 := Scalar.select v30 v19 v37
  let c1_i32_13 : BitVec 32 := 1#32
  let v39 : BitVec 32 := Scalar.subi v38 c1_i32_13
  let c32_i32 : BitVec 32 := 32#32
  let v40 : BitVec 32 := Scalar.addi v39 c32_i32
  let c16_i32_14 : BitVec 32 := 16#32
  let v41 : BitVec 32 := Scalar.remsi v40 c16_i32_14
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let c0_i32_28 : BitVec 32 := 0#32
  let v69 : BitVec 1 := Scalar.cmpi .eq v58 c0_i32_28
  let c4_i32_29 : BitVec 32 := 4#32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v41 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let v70 : BitVec 32 := Scalar.muli c4_i32_29 v68
  let c1_i32_30 : BitVec 32 := 1#32
  let v71 : BitVec 1 := Scalar.cmpi .eq v58 c1_i32_30
  let c4_i32_31 : BitVec 32 := 4#32
  let c3_i32 : BitVec 32 := 3#32
  let v72 : BitVec 32 := Scalar.subi c3_i32 v68
  let v73 : BitVec 32 := Scalar.muli c4_i32_31 v72
  let c1_i32_32 : BitVec 32 := 1#32
  let v74 : BitVec 32 := Scalar.addi v73 c1_i32_32
  let c2_i32_33 : BitVec 32 := 2#32
  let v75 : BitVec 1 := Scalar.cmpi .eq v58 c2_i32_33
  let c4_i32_34 : BitVec 32 := 4#32
  let v76 : BitVec 32 := Scalar.muli c4_i32_34 v68
  let c2_i32_35 : BitVec 32 := 2#32
  let v77 : BitVec 32 := Scalar.addi v76 c2_i32_35
  let c4_i32_37 : BitVec 32 := 4#32
  let c3_i32_36 : BitVec 32 := 3#32
  let v78 : BitVec 32 := Scalar.subi c3_i32_36 v68
  let v79 : BitVec 32 := Scalar.muli c4_i32_37 v78
  let c3_i32_38 : BitVec 32 := 3#32
  let v80 : BitVec 32 := Scalar.addi v79 c3_i32_38
  let v81 : BitVec 32 := Scalar.select v75 v77 v80
  let v82 : BitVec 32 := Scalar.select v71 v74 v81
  let v83 : BitVec 32 := Scalar.select v69 v70 v82
  let c1_i32_2322 : BitVec 32 := 1#32
  let v2041 : BitVec 32 := Scalar.muli v83 c1_i32_2322
  let v2042 : BitVec 32 := Scalar.addi c0_i32_2323 v2041
  v2042.toNat
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Text.lean ====
module

public import proofs.«01_k».proof.Proof.Gen.KernelIdeal.Skeleton
public import proofs.«01_k».proof.Proof.Gen.KernelIdeal.Points

/-!
# The kernel's body as a list of ring steps

The printed body is a straight line of about a thousand operations. Here it is written again from a
few steps, each symbolic in the CHAIN it belongs to (a direction of the ring and a half of the
columns) and in the number of the transfer, and the two are shown to be the same program.

A chain `ch : Fin 4` is `0`: clockwise, left half; `1`: clockwise, right half; `2`: counter-clockwise,
left half; `3`: counter-clockwise, right half. Transfer `u < 8` of a chain is step `u` of the
reduce-scatter, transfer `8 + t` is step `t` of the all-gather.
-/

@[expose] public section

noncomputable section

namespace Cert.KernelIdeal.Own

open Idealize.ShloMosaic Idealize.SL.Sem Cert.KernelIdeal Cert.KernelIdeal.Gen

variable {F : FTy → Type} [FloatOps F]

/-- A program of one TensorCore without a result. -/
abbrev Pr (F : FTy → Type) [FloatOps F] : Type 1 := Prog (TpuEff nD τ sig (Elt F) Λ₀ .tc) PUnit

/-! ## Places -/

/-- The first column of a chain's half. -/
def hc (ch : Fin 4) : ℕ := match ch with | 0 => 0 | 1 => 1024 | 2 => 0 | 3 => 1024

/-- The half (0 left, 1 right) of a chain. -/
def hb (ch : Fin 4) : ℕ := match ch with | 0 => 0 | 1 => 1 | 2 => 0 | 3 => 1

/-- The buffer a chain's copies land in: one for the reduce-scatter, one for the all-gather. -/
def rbuf (ch : Fin 4) (u : ℕ) : Memref sig .tc .vmem S8x128x2048 .bf16 :=
  match ch with
  | 0 => bif Nat.ble 8 u then Memref.whole cc0_scratch5 else Memref.whole cc0_scratch3
  | 1 => bif Nat.ble 8 u then Memref.whole cc0_scratch5 else Memref.whole cc0_scratch3
  | 2 => bif Nat.ble 8 u then Memref.whole cc0_scratch6 else Memref.whole cc0_scratch4
  | 3 => bif Nat.ble 8 u then Memref.whole cc0_scratch6 else Memref.whole cc0_scratch4

/-- The receive semaphores of a chain. -/
def rsems (ch : Fin 4) (u : ℕ) : DmaSems sig S8x2 :=
  match ch with
  | 0 => bif Nat.ble 8 u then cc0_scratch11 else cc0_scratch9
  | 1 => bif Nat.ble 8 u then cc0_scratch11 else cc0_scratch9
  | 2 => bif Nat.ble 8 u then cc0_scratch12 else cc0_scratch10
  | 3 => bif Nat.ble 8 u then cc0_scratch12 else cc0_scratch10

/-- The buffer a chain sends from while it reduces. -/
def sfull (ch : Fin 4) : Memref sig .tc .vmem S128x2048 .bf16 :=
  match ch with
  | 0 => Memref.whole cc0_scratch1
  | 1 => Memref.whole cc0_scratch1
  | 2 => Memref.whole cc0_scratch2
  | 3 => Memref.whole cc0_scratch2

/-- The send semaphores of a chain's direction. -/
def ssems (ch : Fin 4) : DmaSems sig S2 :=
  match ch with
  | 0 => cc0_scratch7
  | 1 => cc0_scratch7
  | 2 => cc0_scratch8
  | 3 => cc0_scratch8

theorem rbuf_whole (ch : Fin 4) (u : ℕ) : (rbuf ch u).IsWhole := by
  unfold rbuf
  cases Nat.ble 8 u <;> fin_cases ch <;> exact Memref.isWhole_whole _

theorem sfull_whole (ch : Fin 4) : (sfull ch).IsWhole := by
  fin_cases ch <;> exact Memref.isWhole_whole _

theorem hc_le (ch : Fin 4) : hc ch + 1024 ≤ 2048 := by fin_cases ch <;> decide

theorem hb_lt (ch : Fin 4) : hb ch < 2 := by fin_cases ch <;> decide

theorem slot_inb (ch : Fin 4) (u : ℕ) :
    ∀ a, (![u % 8, 0, hc ch] : Fin 3 → ℕ) a + S1x128x1024.size a ≤ S8x128x2048.size a := by
  intro a
  have := hc_le ch
  fin_cases a
  · show u % 8 + 1 ≤ 8
    omega
  · exact (by decide : 0 + 128 ≤ 128)
  · exact this

theorem half_inb (ch : Fin 4) :
    ∀ a, (![0, hc ch] : Fin 2 → ℕ) a + S128x1024.size a ≤ S128x2048.size a := by
  intro a
  fin_cases a
  · exact (by decide : 0 + 128 ≤ 128)
  · exact hc_le ch

theorem rsem_inb (ch : Fin 4) (u : ℕ) :
    ∀ a, (![u % 8, hb ch] : Fin 2 → ℕ) a + S1x1.size a ≤ S8x2.size a := by
  intro a
  have := hb_lt ch
  fin_cases a
  · show u % 8 + 1 ≤ 8
    omega
  · exact this

theorem ssem_inb (ch : Fin 4) : ∀ a, (![hb ch] : Fin 1 → ℕ) a + S1.size a ≤ S2.size a := by
  intro a
  fin_cases a
  exact hb_lt ch

/-- The rectangle of slot `u` in its buffer. -/
abbrev slotR (ch : Fin 4) (u : ℕ) : Rect S8x128x2048 :=
  Rect.unit (s := S8x128x2048) ![u % 8, 0, hc ch] S1x128x1024.size (slot_inb ch u)

/-- The rectangle of a chain's half of a send buffer. -/
abbrev halfR (ch : Fin 4) : Rect S128x2048 :=
  Rect.unit (s := S128x2048) ![0, hc ch] S128x1024.size (half_inb ch)

/-- Slot `u` of a chain: where its transfer `u` lands. -/
abbrev slot (ch : Fin 4) (u : ℕ) : Memref sig .tc .vmem S128x1024 .bf16 :=
  ((rbuf ch u).slice (slotR ch u) (fun _ => rfl)).squeeze S128x1024 squeezes_S1x128x1024_S128x1024

/-- A chain's half of its send buffer. -/
abbrev sbuf (ch : Fin 4) : Memref sig .tc .vmem S128x1024 .bf16 :=
  (sfull ch).slice (halfR ch) (fun _ => rfl)

/-- The receive semaphore of transfer `u`. -/
abbrev rsem (ch : Fin 4) (u : ℕ) : DmaSem sig :=
  (((rsems ch u).slice (Rect.unit (s := S8x2) ![u % 8, hb ch] S1x1.size (rsem_inb ch u))).squeeze S_
    squeezes_S1x1_S_).sem

/-- The send semaphore of a chain. -/
abbrev ssem (ch : Fin 4) : DmaSem sig :=
  (((ssems ch).slice (Rect.unit (s := S2) ![hb ch] S1.size (ssem_inb ch))).squeeze S_
    squeezes_S1_S_).sem

/-- What transfer `u` reads: the send buffer, and from the second step of the all-gather on the slot
    the step before landed in. -/
abbrev src (ch : Fin 4) (u : ℕ) : Memref sig .tc .vmem S128x1024 .bf16 :=
  bif Nat.ble u 8 then sbuf ch else slot ch (u - 1)

/-- The neighbour a chain's copies go to. -/
def nbr (ch : Fin 4) (c : Dev nD) : Dev nD :=
  match ch with
  | 0 => ⟨k0_dev2 c, k0_dev2_lt c⟩
  | 1 => ⟨k0_dev2 c, k0_dev2_lt c⟩
  | 2 => ⟨k0_dev1 c, k0_dev1_lt c⟩
  | 3 => ⟨k0_dev1 c, k0_dev1_lt c⟩

/-- The first row and column, in the device's own product, of what a chain adds at step `1 + r`. -/
def rowsOff (ch : Fin 4) (c : Dev nD) (r : Fin 7) : Fin 2 → ℕ :=
  match ch with
  | 0 => k0_off2 c (BitVec.ofNat 32 (1 + r.val))
  | 1 => k0_off4 c (BitVec.ofNat 32 (1 + r.val))
  | 2 => k0_off3 c (BitVec.ofNat 32 (1 + r.val))
  | 3 => k0_off5 c (BitVec.ofNat 32 (1 + r.val))

theorem rowsOff_inb (ch : Fin 4) (c : Dev nD) (r : Fin 7) :
    ∀ a, rowsOff ch c r a + S128x1024.size a ≤ S2048x2048.size a := by
  fin_cases ch
  · exact k0_off2_inb c r
  · exact k0_off4_inb c r
  · exact k0_off3_inb c r
  · exact k0_off5_inb c r

/-- Where in the result a chain stores what all-gather step `r` brought. -/
def outOff (ch : Fin 4) (c : Dev nD) (r : Fin 7) : Fin 2 → ℕ :=
  match ch with
  | 0 => k0_off8 c (BitVec.ofNat 32 (1 + r.val))
  | 1 => k0_off10 c (BitVec.ofNat 32 (1 + r.val))
  | 2 => k0_off9 c (BitVec.ofNat 32 (1 + r.val))
  | 3 => k0_off11 c (BitVec.ofNat 32 (1 + r.val))

theorem outOff_inb (ch : Fin 4) (c : Dev nD) (r : Fin 7) :
    ∀ a, outOff ch c r a + S128x1024.size a ≤ S2048x2048.size a := by
  fin_cases ch
  · exact k0_off8_inb c ⟨r.val, by omega⟩
  · exact k0_off10_inb c ⟨r.val, by omega⟩
  · exact k0_off9_inb c r
  · exact k0_off11_inb c r

/-! ## Word-exactness of the places -/

theorem words_slot (ch : Fin 4) (u : ℕ) : (slotR ch u).WholeWords (EltTy.packing .bf16) := by
  have h : ∀ (s : Fin 8) (b : Fin 2) (hh : ∀ a, (![s.val, 0, 1024 * b.val] : Fin 3 → ℕ) a
      + S1x128x1024.size a ≤ S8x128x2048.size a),
      (Rect.unit (s := S8x128x2048) ![s.val, 0, 1024 * b.val] S1x128x1024.size hh).WholeWords
        (EltTy.packing .bf16) := by decide
  fin_cases ch
  · exact h ⟨u % 8, by omega⟩ 0 _
  · exact h ⟨u % 8, by omega⟩ 1 _
  · exact h ⟨u % 8, by omega⟩ 0 _
  · exact h ⟨u % 8, by omega⟩ 1 _

theorem words_half (ch : Fin 4) : (halfR ch).WholeWords (EltTy.packing .bf16) := by
  revert ch; decide

theorem packed_half (ch : Fin 4) : (halfR ch).PackedRows (EltTy.packing .bf16) := by
  revert ch; decide

theorem slot_exact (ch : Fin 4) (u : ℕ) : (slot ch u).view.WordExact :=
  ((rbuf_whole ch u).wordExact_slice rfl _ (words_slot ch u)).reshape _ _

theorem sbuf_exact (ch : Fin 4) : (sbuf ch).view.WordExact :=
  (sfull_whole ch).wordExact_slice rfl _ (words_half ch)

theorem src_exact (ch : Fin 4) (u : ℕ) : (src ch u).view.WordExact := by
  unfold src
  cases Nat.ble u 8
  · exact slot_exact ch (u - 1)
  · exact sbuf_exact ch

/-! ## The steps -/

/-- Wait for transfer `u` to land here. -/
def wRecv (ch : Fin 4) (u : ℕ) (k : Pr F) : Pr F :=
  .op (.waitDma2 (rsem ch u) (src ch u) (slot ch u) (src_exact ch u) (slot_exact ch u)) fun _ => k

/-- Wait for the own transfer `u` to have left. -/
def wSend (ch : Fin 4) (u : ℕ) (k : Pr F) : Pr F :=
  .op (.waitDma2 (ssem ch) (slot ch u) (src ch u) (slot_exact ch u) (src_exact ch u)) fun _ => k

/-- Start transfer `u` to the neighbour. -/
def start (ch : Fin 4) (u : ℕ) (c : Dev nD) (k : Pr F) : Pr F :=
  .op (.enqueueDma (src ch u) (.remote (Dev.tc (nbr ch c)) (slot ch u) (.dma (ssem ch)))
    (.dma (rsem ch u)) (src_exact ch u) (slot_exact ch u) ⟨⟨rfl, Or.inl rfl⟩, trivial⟩) fun _ => k

/-- Load what transfer `u` brought. -/
def ldSlot (ch : Fin 4) (u : ℕ) (k : Vec F S1x128x1024 .bf16 → Pr F) : Pr F :=
  .op (.load (rbuf ch u) (slotR ch u).toLoadRect (View.loadsAt_vmem h_S1x128x1024)) k

/-- Fill the send buffer. -/
def fill (ch : Fin 4) (v : FVec F S128x1024 .bf16) (k : Pr F) : Pr F :=
  .op (.load (sfull ch) (halfR ch).toLoadRect (View.loadsAt_vmem h_S128x1024)) fun _ =>
    .op (.store (sfull ch) (halfR ch) v Finset.univ
      (View.stores_vmem h_S128x1024 ((sfull_whole ch).storeExact_slice rfl _ (packed_half ch))
        (fun _ => rfl)) (.inl rfl)) fun _ => k

/-- The sum of what was received and of the own rows. -/
def plus (x : Vec F S1x128x1024 .bf16) (p : Vec F S128x1024 .bf16) : FVec F S128x1024 .bf16 :=
  shapeCast S128x1024 (addf (shapeCast S128x1024 x shapeCasts_S1x128x1024_S128x1024) p)
    shapeCasts_S128x1024_S128x1024

/-- A block at its own shape. -/
def same (p : FVec F S128x1024 .bf16) : FVec F S128x1024 .bf16 :=
  shapeCast S128x1024 p shapeCasts_S128x1024_S128x1024

/-- Load the own rows a chain adds at step `1 + r`. -/
def ldRows (ch : Fin 4) (c : Dev nD) (r : Fin 7) (k : Vec F S128x1024 .bf16 → Pr F) : Pr F :=
  .op (.load (Memref.whole cc0_scratch0) (Rect.unit (s := S2048x2048) (rowsOff ch c r)
    S128x1024.size (rowsOff_inb ch c r)).toLoadRect (View.loadsAt_vmem h_S128x1024)) k

/-- Step `1 + r` of the reduce-scatter. -/
def rsStep (ch : Fin 4) (c : Dev nD) (r : Fin 7) (k : Pr F) : Pr F :=
  wRecv ch r.val <| wSend ch r.val <| ldSlot ch r.val fun x => ldRows ch c r fun p =>
    fill ch (plus x p) <| start ch (1 + r.val) c k

/-- The first step of a chain that starts at step `1`. -/
def rsFirst (ch : Fin 4) (c : Dev nD) (k : Pr F) : Pr F :=
  ldRows ch c 0 fun p => fill ch (same p) <| start ch 1 c k

/-- Step `u` of the reduce-scatter in all four chains. -/
def rsRow (c : Dev nD) (r : Fin 7) (k : Pr F) : Pr F :=
  rsStep 0 c r <| rsStep 2 c r <| rsStep 1 c r <| rsStep 3 c r k

/-- Overwrite a block of the result. -/
def stOut (off : Fin 2 → ℕ) (h : ∀ a, off a + S128x1024.size a ≤ S2048x2048.size a)
    (v : FVec F S128x1024 .f32) (k : Pr F) : Pr F :=
  .op (.load (Memref.whole cc0_stg2_0) (Rect.unit (s := S2048x2048) off S128x1024.size h).toLoadRect
    (View.loadsAt_vmem h_S128x1024)) fun _ =>
    .op (.store (Memref.whole cc0_stg2_0) (Rect.unit (s := S2048x2048) off S128x1024.size h) v
      Finset.univ (View.stores_vmem_bits_univ h_S128x1024 rfl) (.inl rfl)) fun _ => k

/-- What all-gather step `r` brought, at the result's type. -/
def wide (x : Vec F S1x128x1024 .bf16) : FVec F S128x1024 .f32 :=
  extf .f32 (shapeCast S128x1024 x shapeCasts_S1x128x1024_S128x1024) bitsLt_bf16_f32

/-- Store what all-gather step `r` brought. -/
def agOut (ch : Fin 4) (c : Dev nD) (r : Fin 7) (k : Pr F) : Pr F :=
  ldSlot ch (8 + r.val) fun x => stOut (outOff ch c r) (outOff_inb ch c r) (wide x) k

/-- Step `1 + r` of the all-gather in one chain: what the step before brought is passed on. -/
def agStep (ch : Fin 4) (c : Dev nD) (r : Fin 7) (k : Pr F) : Pr F :=
  wRecv ch (8 + r.val) <| wSend ch (8 + r.val) <| start ch (9 + r.val) c k

/-- The last step of the all-gather in a chain that passes nothing on there. -/
def agLast (ch : Fin 4) (k : Pr F) : Pr F :=
  wRecv ch 14 <| wSend ch 14 k

/-- The four stores of all-gather step `1 + r`. -/
def agOuts (c : Dev nD) (r : Fin 7) (k : Pr F) : Pr F :=
  agOut 0 c r <| agOut 2 c r <| agOut 1 c r <| agOut 3 c r k

/-- Step `1 + r` of the all-gather. -/
def agRow (c : Dev nD) (r : Fin 7) (k : Pr F) : Pr F :=
  agStep 0 c r <| agStep 2 c r <| agStep 1 c r <| agStep 3 c r <| agOuts c r k

/-- The sum of the own block and of the two received halves of the reduction. -/
def total (o : Vec F S128x1024 .f32) (x y : Vec F S1x128x1024 .bf16) : FVec F S128x1024 .f32 :=
  addf (addf (shapeCast S128x1024 o shapeCasts_S128x1024_S128x1024)
      (extf .f32 (shapeCast S128x1024 x shapeCasts_S1x128x1024_S128x1024) bitsLt_bf16_f32))
    (extf .f32 (shapeCast S128x1024 y shapeCasts_S1x128x1024_S128x1024) bitsLt_bf16_f32)

/-- The activation, on a block. -/
def silu (y : FVec F S128x1024 .f32) : FVec F S128x1024 .f32 :=
  mulf y (divf (broadcast S128x1024 (Scalar.ofBits .f32 0x3F800000#32))
    (addf (broadcast S128x1024 (Scalar.ofBits .f32 0x3F800000#32))
      (exp (subf (broadcast S128x1024 (Scalar.ofBits .f32 0x00000000#32)) y))))

/-- A block of the result at the type it is passed on at. -/
def narrow (z : FVec F S128x1024 .f32) : FVec F S128x1024 .bf16 :=
  shapeCast S128x1024 (truncf .bf16 z bitsLt_bf16_f32) shapeCasts_S128x1024_S128x1024

/-- Finish the own block in one half of the columns and start passing it on both ways. -/
def finish (a b : Fin 4) (c : Dev nD) (off : Fin 2 → ℕ)
    (h : ∀ a, off a + S128x1024.size a ≤ S2048x2048.size a) (k : Pr F) : Pr F :=
  wRecv a 7 <| wRecv b 7 <|
    .op (.load (Memref.whole cc0_stg2_0) (Rect.unit (s := S2048x2048) off S128x1024.size h).toLoadRect
      (View.loadsAt_vmem h_S128x1024)) fun o =>
    ldSlot a 7 fun x => ldSlot b 7 fun y =>
    stOut off h (silu (total o x y)) <| wSend a 7 <| wSend b 7 <|
    fill a (narrow (silu (total o x y))) <| fill b (narrow (silu (total o x y))) <|
    start a 8 c <| start b 8 c k

/-- The product of a block of rows. -/
def rowsProd (x : Vec F S128x128 .bf16) (w : Vec F S128x2048 .bf16) : FVec F S128x2048 .f32 :=
  matmul dot_S128x128_S128x2048_S128x2048_1_0_0_1_n_n none
    (shapeCast S128x128 x shapeCasts_S128x128_S128x128)
    (shapeCast S128x2048 w shapeCasts_S128x2048_S128x2048) (constant S128x2048 .f32 0x00000000#32)

/-- The left half of its columns, as it is sent. -/
def rowsL (x : Vec F S128x128 .bf16) (w : Vec F S128x2048 .bf16) : FVec F S128x1024 .bf16 :=
  narrow (extractStridedSlice S128x1024 ![0, 0] (rowsProd x w) slices_S128x2048_o0_0_S128x1024)

/-- The right half. -/
def rowsR (x : Vec F S128x128 .bf16) (w : Vec F S128x2048 .bf16) : FVec F S128x1024 .bf16 :=
  narrow (extractStridedSlice S128x1024 ![0, 1024] (rowsProd x w) slices_S128x2048_o0_1024_S128x1024)

/-- The whole product of a device. -/
def prod (x : Vec F S2048x128 .bf16) (w : Vec F S128x2048 .bf16) : FVec F S2048x2048 .f32 :=
  matmul dot_S2048x128_S128x2048_S2048x2048_1_0_0_1_n_n none
    (shapeCast S2048x128 x shapeCasts_S2048x128_S2048x128)
    (shapeCast S128x2048 w shapeCasts_S128x2048_S128x2048) (constant S2048x2048 .f32 0x00000000#32)

/-- The product as it is sent. -/
def prodN (p : Vec F S2048x2048 .f32) : FVec F S2048x2048 .bf16 :=
  shapeCast S2048x2048 (truncf .bf16 (shapeCast S2048x2048 p shapeCasts_S2048x2048_S2048x2048)
    bitsLt_bf16_f32) shapeCasts_S2048x2048_S2048x2048

/-- Load the second operand. -/
def ldW (k : Vec F S128x2048 .bf16 → Pr F) : Pr F :=
  .op (.load (Memref.whole cc0_stg1_0) (Rect.unit (s := S128x2048) ![0, 0] S128x2048.size
    inb_S128x2048_S128x2048_0_0).toLoadRect (View.loadsAt_vmem h_S128x2048)) k

/-- The first sends, of the rows the other end of the ring finishes. -/
def first (c : Dev nD) (k : Pr F) : Pr F :=
  .op (.load (Memref.whole cc0_stg0_0) (Rect.unit (s := S2048x128) (k0_off1 c) S128x128.size
    (k0_off1_inb c)).toLoadRect (View.loadsAt_vmem h_S128x128)) fun x => ldW fun w =>
  fill 0 (rowsL x w) <| start 0 0 c <| fill 3 (rowsR x w) <| start 3 0 c k

/-- Load the whole result buffer. -/
def ldOut (k : Vec F S2048x2048 .f32 → Pr F) : Pr F :=
  .op (.load (Memref.whole cc0_stg2_0) (Rect.unit (s := S2048x2048) ![0, 0] S2048x2048.size
    inb_S2048x2048_S2048x2048_0_0).toLoadRect (View.loadsAt_vmem h_S2048x2048)) k

/-- The own product, into the result and, narrowed, into the scratch buffer. -/
def compute (k : Pr F) : Pr F :=
  .op (.load (Memref.whole cc0_stg0_0) (Rect.unit (s := S2048x128) ![0, 0] S2048x128.size
    inb_S2048x128_S2048x128_0_0).toLoadRect (View.loadsAt_vmem h_S2048x128)) fun x => ldW fun w =>
  ldOut fun _ =>
  .op (.store (Memref.whole cc0_stg2_0) (Rect.unit (s := S2048x2048) ![0, 0] S2048x2048.size
    inb_S2048x2048_S2048x2048_0_0) (prod x w) Finset.univ
    (View.stores_vmem_bits_univ h_S2048x2048 rfl) (.inl rfl)) fun _ =>
  ldOut fun p =>
  .op (.load (Memref.whole cc0_scratch0) (Rect.unit (s := S2048x2048) ![0, 0] S2048x2048.size
    inb_S2048x2048_S2048x2048_0_0).toLoadRect (View.loadsAt_vmem h_S2048x2048)) fun _ =>
  .op (.store (Memref.whole cc0_scratch0) (Rect.unit (s := S2048x2048) ![0, 0] S2048x2048.size
    inb_S2048x2048_S2048x2048_0_0) (prodN p) Finset.univ
    (View.stores_vmem h_S2048x2048 ((Memref.isWhole_whole _).storeExact_slice rfl _
      packedbf16_S2048x2048_S2048x2048_0_0) (fun _ => rfl)) (.inl rfl)) fun _ => k

/-- The barrier semaphore. -/
abbrev bar : Sem sig := (SemArray.scalar (sig.barrier 0 rfl) : Sems sig S_).sem

/-- The barrier: a signal to each neighbour, and one awaited from each. -/
def barrier (c : Dev nD) (k : Pr F) : Pr F :=
  .op (.semSignal (Dev.tc (nbr 2 c)) bar 1) fun _ =>
    .op (.semSignal (Dev.tc (nbr 0 c)) bar 1) fun _ => .op (.semWait bar 2) fun _ => k

/-- The end: the last transfer of two chains. -/
def ending (c : Dev nD) (k : Pr F) : Pr F :=
  wRecv 0 15 <| ldSlot 0 15 fun x => stOut (k0_off8 c 8#32) (k0_off8_inb c 7) (wide x) <| wSend 0 15 <|
  wRecv 3 15 <| ldSlot 3 15 fun x => stOut (k0_off10 c 8#32) (k0_off10_inb c 7) (wide x) <| wSend 3 15 k

/-- The reduce-scatter. -/
def reduce (c : Dev nD) (k : Pr F) : Pr F :=
  rsStep 0 c 0 <| rsFirst 2 c <| rsFirst 1 c <| rsStep 3 c 0 <|
  rsRow c 1 <| rsRow c 2 <| rsRow c 3 <| rsRow c 4 <| rsRow c 5 <| rsRow c 6 k

/-- The all-gather. -/
def gather (c : Dev nD) (k : Pr F) : Pr F :=
  agRow c 0 <| agRow c 1 <| agRow c 2 <| agRow c 3 <| agRow c 4 <| agRow c 5 <|
  agStep 0 c 6 <| agLast 2 <| agLast 1 <| agStep 3 c 6 <| agOuts c 6 <| ending c k

/-- The body from the device number on. -/
def rest (c : Dev nD) : Pr F :=
  barrier c <| first c <| compute <| reduce c <|
  finish 0 2 c (k0_off6 c) (k0_off6_inb c) <| finish 1 3 c (k0_off7 c) (k0_off7_inb c) <|
  gather c <| .ret ⟨⟩

/-- The body. -/
def text : Pr F := .op .deviceId fun c => rest c

end Cert.KernelIdeal.Own
end
-- ==== Proof.Ring.lean ====
module

public import proofs.«01_k».proof.Proof.Text

/-!
# The ring

The order of the devices on the ring, the neighbours the kernel computes, and the closed forms of the
rows it addresses: all decided over the sixteen devices.
-/

@[expose] public section

noncomputable section

namespace Cert.KernelIdeal.Own

open Idealize.ShloMosaic Idealize.SL.Sem Cert.KernelIdeal Cert.KernelIdeal.Gen

/-- A device's place on the ring. -/
def pos (c : Dev nD) : ℕ :=
  (![0, 7, 8, 15, 1, 6, 9, 14, 2, 5, 10, 13, 3, 4, 11, 12] : Fin 16 → ℕ) c

/-- The device at a place. -/
def at' (k : Fin 16) : Dev nD :=
  (![0, 4, 8, 12, 13, 9, 5, 1, 2, 6, 10, 14, 15, 11, 7, 3] : Fin 16 → Dev nD) k

/-- The device at a place counted round. -/
def dev (k : ℕ) : Dev nD := at' ⟨k % 16, Nat.mod_lt _ (by decide)⟩

theorem pos_lt (c : Dev nD) : pos c < 16 := by revert c; decide

theorem pos_at (k : Fin 16) : pos (at' k) = k.val := by revert k; decide

theorem pos_dev (k : ℕ) : pos (dev k) = k % 16 := pos_at _

theorem at_pos (c : Dev nD) : at' ⟨pos c, pos_lt c⟩ = c := by revert c; decide

theorem dev_pos (c : Dev nD) : dev (pos c) = c := by revert c; decide

theorem dev_mod (k : ℕ) : dev (k % 16) = dev k := by
  unfold dev; simp

/-- How far the copies of a chain go: one place on, or fifteen. -/
def hop (ch : Fin 4) : ℕ := match ch with | 0 => 1 | 1 => 1 | 2 => 15 | 3 => 15

/-- How far back they come from. -/
def back (ch : Fin 4) : ℕ := match ch with | 0 => 15 | 1 => 15 | 2 => 1 | 3 => 1

/-- The device a chain's copies go to. -/
def nxt (ch : Fin 4) (c : Dev nD) : Dev nD := dev (pos c + hop ch)

/-- The device they come from. -/
def prv (ch : Fin 4) (c : Dev nD) : Dev nD := dev (pos c + back ch)

theorem prv_nxt (ch : Fin 4) (c : Dev nD) : prv ch (nxt ch c) = c := by revert ch c; decide

theorem nxt_prv (ch : Fin 4) (c : Dev nD) : nxt ch (prv ch c) = c := by revert ch c; decide

theorem nbr_eq (ch : Fin 4) (c : Dev nD) : nbr ch c = nxt ch c := by revert ch c; decide

/-- Going one hop along a chain, as a permutation of the devices. -/
def turn (ch : Fin 4) : Dev nD ≃ Dev nD := ⟨nxt ch, prv ch, prv_nxt ch, nxt_prv ch⟩

/-- The place of the rows a chain adds at step `1 + r`. -/
def rowsAt (ch : Fin 4) (c : Dev nD) (r : ℕ) : ℕ :=
  match ch with
  | 0 => (pos c + 23 - r) % 16
  | 1 => (pos c + 23 - r) % 16
  | 2 => (pos c + 9 + r) % 16
  | 3 => (pos c + 9 + r) % 16

/-- The place of the rows all-gather step `r` brings. -/
def outAt (ch : Fin 4) (c : Dev nD) (r : ℕ) : ℕ :=
  match ch with
  | 0 => (pos c + 15 - r) % 16
  | 1 => (pos c + 15 - r) % 16
  | 2 => (pos c + 1 + r) % 16
  | 3 => (pos c + 1 + r) % 16

theorem rowsOff_eq (ch : Fin 4) (c : Dev nD) (r : Fin 7) :
    rowsOff ch c r = ![128 * rowsAt ch c r.val, hc ch] := by revert ch c r; decide

theorem outOff_eq (ch : Fin 4) (c : Dev nD) (r : Fin 7) :
    outOff ch c r = ![128 * outAt ch c r.val, hc ch] := by revert ch c r; decide

theorem off1_eq (c : Dev nD) : k0_off1 c = ![128 * ((pos c + 8) % 16), 0] := by revert c; decide

theorem off6_eq (c : Dev nD) : k0_off6 c = ![128 * pos c, 0] := by revert c; decide

theorem off7_eq (c : Dev nD) : k0_off7 c = ![128 * pos c, 1024] := by revert c; decide

theorem off8_last (c : Dev nD) : k0_off8 c 8#32 = ![128 * ((pos c + 8) % 16), 0] := by
  revert c; decide

theorem off10_last (c : Dev nD) : k0_off10 c 8#32 = ![128 * ((pos c + 8) % 16), 1024] := by
  revert c; decide

/-! ## The semaphores by number -/

/-- The first transfer of a chain. -/
def lo (ch : Fin 4) : ℕ := match ch with | 0 => 0 | 1 => 1 | 2 => 1 | 3 => 0

/-- One past its last. -/
def hi (ch : Fin 4) : ℕ := match ch with | 0 => 16 | 1 => 15 | 2 => 15 | 3 => 16

theorem hi_le (ch : Fin 4) : hi ch ≤ 16 := by revert ch; decide

theorem lo_le (ch : Fin 4) : lo ch ≤ 1 := by revert ch; decide

/-- What a DMA semaphore of the ring is for: the chain and, at a receive semaphore, the transfer. -/
def ringOf (n : ℕ) : Fin 4 × ℕ :=
  bif Nat.ble 55 n then (bif Nat.ble 1 (n % 2) then 2 else 3, 8 + (n - 55) / 2)
  else bif Nat.ble 39 n then (bif Nat.ble 1 (n % 2) then 0 else 1, 8 + (n - 39) / 2)
  else bif Nat.ble 23 n then (bif Nat.ble 1 (n % 2) then 2 else 3, (n - 23) / 2)
  else bif Nat.ble 7 n then (bif Nat.ble 1 (n % 2) then 0 else 1, (n - 7) / 2)
  else (bif Nat.ble 6 n then 3 else bif Nat.ble 5 n then 2 else bif Nat.ble 4 n then 1 else 0, 0)

theorem rsem_ge (ch : Fin 4) (u : Fin 16) : 7 ≤ (rsem ch u.val).val := by revert ch u; decide

theorem ssem_lt (ch : Fin 4) : 3 ≤ (ssem ch).val ∧ (ssem ch).val < 7 := by revert ch; decide

theorem ringOf_rsem (ch : Fin 4) (u : Fin 16) : ringOf (rsem ch u.val).val = (ch, u.val) := by
  revert ch u; decide

theorem ringOf_ssem (ch : Fin 4) : ringOf (ssem ch).val = (ch, 0) := by revert ch; decide

/-- Every DMA semaphore is a staging one, a send semaphore or a receive semaphore. -/
theorem rsem_of (s : DmaSem sig) (h : 7 ≤ s.val) :
    ∃ (ch : Fin 4) (u : Fin 16), s = rsem ch u.val := by revert s; decide

end Cert.KernelIdeal.Own
end
-- ==== Proof.Values.lean ====
module

public import proofs.«01_k».proof.Proof.Ring

/-!
# What every transfer carries

From the blocks of the two operands each device holds: the contents of every transfer of every chain,
and the finished blocks. Nothing here looks at a program.
-/

@[expose] public section

noncomputable section

namespace Cert.KernelIdeal.Own

open Idealize.ShloMosaic Idealize.SL.Sem Cert.KernelIdeal Cert.KernelIdeal.Gen

variable {F : FTy → Type} [FloatOps F]

theorem blk_inb (k : ℕ) (ch : Fin 4) :
    ∀ a, (![128 * (k % 16), hc ch] : Fin 2 → ℕ) a + S128x1024.size a ≤ S2048x2048.size a := by
  intro a
  fin_cases a
  · show 128 * (k % 16) + 128 ≤ 2048
    omega
  · exact hc_le ch

/-- The rectangle of the rows at a place of the ring, in a chain's half of the columns. -/
abbrev blkR (k : ℕ) (ch : Fin 4) : Rect S2048x2048 :=
  Rect.unit (s := S2048x2048) ![128 * (k % 16), hc ch] S128x1024.size (blk_inb k ch)

/-- The block there. -/
def blk {α : Type} (k : ℕ) (ch : Fin 4) (f : S2048x2048.Idx → α) : S128x1024.Idx → α :=
  fun j => f ((blkR k ch).emb j)

theorem row_inb (k : ℕ) :
    ∀ a, (![128 * (k % 16), 0] : Fin 2 → ℕ) a + S128x128.size a ≤ S2048x128.size a := by
  intro a
  fin_cases a
  · show 128 * (k % 16) + 128 ≤ 2048
    omega
  · exact (by decide : 0 + 128 ≤ 128)

/-- The rows of the first operand at a place. -/
abbrev rowR (k : ℕ) : Rect S2048x128 :=
  Rect.unit (s := S2048x128) ![128 * (k % 16), 0] S128x128.size (row_inb k)

/-- The block of rows there. -/
def rowBlk {α : Type} (k : ℕ) (f : S2048x128.Idx → α) : S128x128.Idx → α :=
  fun j => f ((rowR k).emb j)

/-- A received block and the own rows, added. -/
def plusV (x p : FVec F S128x1024 .bf16) : FVec F S128x1024 .bf16 :=
  shapeCast S128x1024 (addf x p) shapeCasts_S128x1024_S128x1024

/-- The own block and the two received ones, added. -/
def totalV (o : FVec F S128x1024 .f32) (x y : FVec F S128x1024 .bf16) : FVec F S128x1024 .f32 :=
  addf (addf (shapeCast S128x1024 o shapeCasts_S128x1024_S128x1024) (extf .f32 x bitsLt_bf16_f32))
    (extf .f32 y bitsLt_bf16_f32)

/-- A block at the result's type. -/
def wideV (x : FVec F S128x1024 .bf16) : FVec F S128x1024 .f32 := extf .f32 x bitsLt_bf16_f32

/-- The clockwise chain of a chain's half of the columns, -/
def cwOf (ch : Fin 4) : Fin 4 := match ch with | 0 => 0 | 1 => 1 | 2 => 0 | 3 => 1

/-- and the counter-clockwise one. -/
def ccwOf (ch : Fin 4) : Fin 4 := match ch with | 0 => 2 | 1 => 3 | 2 => 2 | 3 => 3

variable (xs : Dev nD → Vec F S2048x128 .bf16) (ws : Dev nD → Vec F S128x2048 .bf16)

/-- A device's product, as it adds it to what it receives. -/
def part (c : Dev nD) : FVec F S2048x2048 .bf16 := prodN (prod (xs c) (ws c))

/-- The block transfer `0` of a chain carries. -/
def firstV (ch : Fin 4) (c : Dev nD) : FVec F S128x1024 .bf16 :=
  match ch with
  | 0 => rowsL (rowBlk (pos c + 8) (xs c)) (ws c)
  | 1 => rowsL (rowBlk (pos c + 8) (xs c)) (ws c)
  | 2 => rowsR (rowBlk (pos c + 8) (xs c)) (ws c)
  | 3 => rowsR (rowBlk (pos c + 8) (xs c)) (ws c)

/-- What device `c` sends in transfer `u` of a chain. -/
def V : ℕ → Fin 4 → Dev nD → FVec F S128x1024 .bf16
  | 0, ch, c => firstV xs ws ch c
  | u + 1, ch, c =>
    if u < 7 then
      if u + 1 = lo ch then same (blk (rowsAt ch c u) ch (part xs ws c))
      else plusV (V u ch (prv ch c)) (blk (rowsAt ch c u) ch (part xs ws c))
    else if u = 7 then
      narrow (silu (totalV (blk (pos c) ch (prod (xs c) (ws c)))
        (V u (cwOf ch) (prv (cwOf ch) c)) (V u (ccwOf ch) (prv (ccwOf ch) c))))
    else V u ch (prv ch c)

/-- The block device `c` finishes in a chain's half of the columns. -/
def Z (ch : Fin 4) (c : Dev nD) : FVec F S128x1024 .f32 :=
  silu (totalV (blk (pos c) ch (prod (xs c) (ws c)))
    (V xs ws 7 (cwOf ch) (prv (cwOf ch) c)) (V xs ws 7 (ccwOf ch) (prv (ccwOf ch) c)))

theorem V_zero (ch : Fin 4) (c : Dev nD) : V xs ws 0 ch c = firstV xs ws ch c := by rw [V]

theorem V_first (ch : Fin 4) (c : Dev nD) (h : lo ch = 1) :
    V xs ws 1 ch c = same (blk (rowsAt ch c 0) ch (part xs ws c)) := by
  rw [V, if_pos (by decide), if_pos h.symm]

theorem V_rs (ch : Fin 4) (c : Dev nD) (u : ℕ) (hu : u < 7) (h : lo ch ≤ u) :
    V xs ws (u + 1) ch c
      = plusV (V xs ws u ch (prv ch c)) (blk (rowsAt ch c u) ch (part xs ws c)) := by
  rw [V, if_pos hu, if_neg (by omega)]

theorem V_eight (ch : Fin 4) (c : Dev nD) : V xs ws 8 ch c = narrow (Z xs ws ch c) := by
  rw [V, if_neg (by decide), if_pos rfl]; rfl

theorem V_ag (ch : Fin 4) (c : Dev nD) (u : ℕ) (hu : 8 ≤ u) :
    V xs ws (u + 1) ch c = V xs ws u ch (prv ch c) := by
  rw [V, if_neg (by omega), if_neg (by omega)]

end Cert.KernelIdeal.Own
end
-- ==== Proof.Sched.lean ====
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

/-!
# The protocol

Who signals which semaphore cell how often, and what a signal hands over.

* The barrier cell of a device is signalled once by each neighbour. The neighbour the device sends to
  along a chain hands over, with its signal, the slots those copies are to land in.
* The receive cell of transfer `u` is credited once, by the copy landing in slot `u`; the slot comes
  with the contents of that transfer.
* The send cell of a chain is credited once per transfer, in their order. The first transfers, up to
  number `8`, give the send buffer back; the later ones the half share of the slot they were lent.

A wait on a cell is allowed below everything the device still owes: the barrier lies at level `1`, the
receive cells of transfer `u` at `2 + u`, everything else at `0`.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost state of the ring. -/
abbrev UB : Type := URounds (GSem nD τ sig) Bool

/-- The pipeline's and the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg bar)
abbrev sendCell (ch : Fin 4) (c : Dev nD) : GSem nD τ sig := ((c : Thread nD τ), .dma (ssem ch))
abbrev recvCell (ch : Fin 4) (u : ℕ) (c : Dev nD) : GSem nD τ sig := ((c : Thread nD τ), .dma (rsem ch u))

/-- The credit of one transfer. -/
abbrev N : ℕ := (slot 0 0).view.dmaCredit

theorem N_pos : 0 < N := View.dmaCredit_pos _ (by decide)

theorem slot_credit (ch : Fin 4) (u : ℕ) : (slot ch u).view.dmaCredit = N := by
  unfold N slot rbuf
  fin_cases ch <;> cases Nat.ble 8 u <;> rfl

theorem sbuf_credit (ch : Fin 4) : (sbuf ch).view.dmaCredit = N := by
  fin_cases ch <;> rfl

theorem src_credit (ch : Fin 4) (u : ℕ) : (src ch u).view.dmaCredit = N := by
  unfold src
  cases Nat.ble u 8
  · exact slot_credit ch (u - 1)
  · exact sbuf_credit ch

/-! ## What is handed over -/

/-- Something of a slot's type. -/
abbrev Sl (ch : Fin 4) (u : ℕ) (q : PosShare TreeShare) (c : Dev nD) (v : FVec F S128x1024 .bf16) :
    sProp 𝕄 := owns (c : Thread nD τ) (slot ch u) q v

/-- The send buffer of a chain, with its contents. -/
abbrev SB (ch : Fin 4) (c : Dev nD) (v : FVec F S128x1024 .bf16) : sProp 𝕄 :=
  owns (c : Thread nD τ) (sbuf ch) fullShare v

/-- All slots of a chain the copies land in, with any contents. -/
def lands (ch : Fin 4) (c : Dev nD) : sProp 𝕄 :=
  bigSep (Finset.Ico (lo ch) (hi ch)) fun u => iprop(∃ v, Sl ch u fullShare c v)

/-- What a signal of the barrier hands over: `false` is the clockwise neighbour's, `true` the other's. -/
def barPay (c : Dev nD) (d : Bool) : sProp 𝕄 :=
  bif d then iprop(lands 2 (nxt 2 c) ∗ lands 3 (nxt 3 c)) else iprop(lands 0 (nxt 0 c) ∗ lands 1 (nxt 1 c))

section Values
variable (xs : Dev nD → Vec F S2048x128 .bf16) (ws : Dev nD → Vec F S128x2048 .bf16)

/-- What a landing hands over. -/
def recvPay (ch : Fin 4) (u : ℕ) (c : Dev nD) : sProp 𝕄 :=
  Sl ch u fullShare c (V xs ws u ch (prv ch c))

/-- What comes back when transfer `u` has left. -/
def sendPay (ch : Fin 4) (u : ℕ) (c : Dev nD) : sProp 𝕄 :=
  if u ≤ 8 then iprop(∃ v, SB ch c v)
  else Sl ch (u - 1) fullShare.right c (V xs ws u ch c)

instance lands_storable (ch : Fin 4) (c : Dev nD) : BI.Storable (upEmb : UEmb _ 𝕄) (lands (F := F) ch c) := by
  unfold lands; infer_instance

instance barPay_storable (c : Dev nD) (d : Bool) : BI.Storable (upEmb : UEmb _ 𝕄) (barPay (F := F) c d) := by
  unfold barPay; cases d
  · show BI.Storable upEmb iprop(lands 0 (nxt 0 c) ∗ lands 1 (nxt 1 c)); infer_instance
  · show BI.Storable upEmb iprop(lands 2 (nxt 2 c) ∗ lands 3 (nxt 3 c)); infer_instance

instance recvPay_storable (ch : Fin 4) (u : ℕ) (c : Dev nD) :
    BI.Storable (upEmb : UEmb _ 𝕄) (recvPay xs ws ch u c) := by unfold recvPay; infer_instance

instance sendPay_storable (ch : Fin 4) (u : ℕ) (c : Dev nD) :
    BI.Storable (upEmb : UEmb _ 𝕄) (sendPay xs ws ch u c) := by
  unfold sendPay; split <;> infer_instance

/-! ## The schedule -/

/-- The duties of a DMA semaphore by number: a staging one has none; a send cell one a round, a round a
    transfer; a receive cell one, if its transfer exists. -/
def dmaDuties (n r : ℕ) : Finset Bool :=
  if 7 ≤ n then (if r = 0 ∧ lo (ringOf n).1 ≤ (ringOf n).2 ∧ (ringOf n).2 < hi (ringOf n).1 then {true} else ∅)
  else if 3 ≤ n ∧ lo (ringOf n).1 + r < hi (ringOf n).1 then {true} else ∅

/-- What it hands over. -/
def dmaPay (n r : ℕ) (c : Dev nD) : sProp 𝕄 :=
  if 7 ≤ n then recvPay xs ws (ringOf n).1 (ringOf n).2 c
  else sendPay xs ws (ringOf n).1 (lo (ringOf n).1 + r) c

instance dmaPay_storable (n r : ℕ) (c : Dev nD) : BI.Storable (upEmb : UEmb _ 𝕄) (dmaPay xs ws n r c) := by
  unfold dmaPay; split <;> infer_instance

/-- The duties. -/
def Rd : Rounds.Schedule (GSem nD τ sig) Bool 𝕄 where
  duties g r := if g.1.2 = .tc then (match g.2 with
    | .reg _ => if r = 0 then Finset.univ else ∅
    | .dma s => dmaDuties s.val r) else ∅
  unitless _ := False
  amount g _ _ := match g.2 with
    | .reg _ => 1
    | .dma _ => N
  payload g r d := match g.2 with
    | .reg _ => barPay g.1.1 d
    | .dma s => dmaPay xs ws s.val r g.1.1
  amount_pos g _ _ _ := by
    obtain ⟨t, s⟩ := g
    cases s
    · exact Nat.one_pos
    · exact N_pos

instance Rd_storable (g : GSem nD τ sig) (r : ℕ) (d : Bool) :
    BI.Storable (upEmb : UEmb _ 𝕄) ((Rd xs ws).payload g r d) := by
  obtain ⟨t, s⟩ := g
  cases s
  · show BI.Storable upEmb (barPay t.1 d); infer_instance
  · rename_i s; show BI.Storable upEmb (dmaPay xs ws s.val r t.1); infer_instance

section Tables
variable (c : Dev nD)

theorem duties_bar : (Rd xs ws).duties (barCell c) 0 = Finset.univ := by
  dsimp only [Rd]; rw [if_pos rfl]; exact if_pos rfl

theorem duties_recv (ch : Fin 4) (u : ℕ) (h : lo ch ≤ u) (h' : u < hi ch) :
    (Rd xs ws).duties (recvCell ch u c) 0 = {true} := by
  have h16 := lt_of_lt_of_le h' (hi_le ch)
  have e := ringOf_rsem ch ⟨u, h16⟩
  have g := rsem_ge ch ⟨u, h16⟩
  dsimp only [Rd]; rw [if_pos rfl]
  show dmaDuties (rsem ch u).val 0 = _
  dsimp only at e g
  unfold dmaDuties
  rw [if_pos g, e]; exact if_pos ⟨rfl, h, h'⟩

theorem duties_send (ch : Fin 4) (r : ℕ) (h' : lo ch + r < hi ch) :
    (Rd xs ws).duties (sendCell ch c) r = {true} := by
  have g := ssem_lt ch
  dsimp only [Rd]; rw [if_pos rfl]
  show dmaDuties (ssem ch).val r = _
  unfold dmaDuties
  rw [if_neg (by omega), ringOf_ssem]; exact if_pos ⟨g.1, h'⟩

/-- A barrier cell has no later round. -/
theorem no_bar : ∀ r, 1 ≤ r → (Rd xs ws).duties (barCell c) r = ∅ := fun r hr => by
  dsimp only [Rd]; rw [if_pos rfl]; exact if_neg (by omega)

/-- A receive cell has no later round. -/
theorem no_recv (ch : Fin 4) (u : ℕ) (h : u < 16) :
    ∀ r, 1 ≤ r → (Rd xs ws).duties (recvCell ch u c) r = ∅ := fun r hr => by
  have g := rsem_ge ch ⟨u, h⟩
  dsimp only [Rd]; rw [if_pos rfl]
  show dmaDuties (rsem ch u).val r = _
  dsimp only at g
  unfold dmaDuties
  rw [if_pos g]; exact if_neg (by omega)

/-- The receive cell of a transfer that does not exist has no round. -/
theorem no_recv' (ch : Fin 4) (u : ℕ) (h : u < 16) (hu : u < lo ch ∨ hi ch ≤ u) :
    ∀ r, 0 ≤ r → (Rd xs ws).duties (recvCell ch u c) r = ∅ := fun r _ => by
  have g := rsem_ge ch ⟨u, h⟩
  have e := ringOf_rsem ch ⟨u, h⟩
  dsimp only [Rd]; rw [if_pos rfl]
  show dmaDuties (rsem ch u).val r = _
  dsimp only at e g
  unfold dmaDuties
  rw [if_pos g, e]; exact if_neg (by dsimp only; omega)

/-- A send cell has as many rounds as its chain has transfers. -/
theorem no_send (ch : Fin 4) : ∀ r, hi ch - lo ch ≤ r → (Rd xs ws).duties (sendCell ch c) r = ∅ := fun r hr => by
  have g := ssem_lt ch
  dsimp only [Rd]; rw [if_pos rfl]
  show dmaDuties (ssem ch).val r = _
  unfold dmaDuties
  rw [if_neg (by omega), ringOf_ssem]; exact if_neg (by dsimp only; omega)

theorem amount_bar (d : Bool) : (Rd xs ws).amount (barCell c) 0 d = 1 := rfl
theorem amount_recv (ch : Fin 4) (u r : ℕ) (d : Bool) : (Rd xs ws).amount (recvCell ch u c) r d = N := rfl
theorem amount_send (ch : Fin 4) (r : ℕ) (d : Bool) : (Rd xs ws).amount (sendCell ch c) r d = N := rfl

theorem expect_bar : (Rd xs ws).expect (barCell c) 0 = 2 := by
  unfold Schedule.expect Schedule.amountOf
  rw [duties_bar, Finset.sum_congr rfl fun d _ => amount_bar xs ws c d, Finset.sum_const, Finset.card_univ,
    Fintype.card_bool, smul_eq_mul]

theorem expect_recv (ch : Fin 4) (u : ℕ) (h : lo ch ≤ u) (h' : u < hi ch) :
    (Rd xs ws).expect (recvCell ch u c) 0 = N := by
  unfold Schedule.expect Schedule.amountOf
  rw [duties_recv xs ws c ch u h h', Finset.sum_singleton, amount_recv]

theorem expect_send (ch : Fin 4) (r : ℕ) (h' : lo ch + r < hi ch) :
    (Rd xs ws).expect (sendCell ch c) r = N := by
  unfold Schedule.expect Schedule.amountOf
  rw [duties_send xs ws c ch r h', Finset.sum_singleton, amount_send]

theorem payload_bar (d : Bool) : (Rd xs ws).payload (barCell c) 0 d = barPay c d := rfl

theorem payload_recv (ch : Fin 4) (u : ℕ) (h : u < 16) (d : Bool) :
    (Rd xs ws).payload (recvCell ch u c) 0 d = recvPay xs ws ch u c := by
  have g := rsem_ge ch ⟨u, h⟩
  have e := ringOf_rsem ch ⟨u, h⟩
  show dmaPay xs ws (rsem ch u).val 0 c = _
  dsimp only at e g
  unfold dmaPay
  rw [if_pos g, e]

theorem payload_send (ch : Fin 4) (r : ℕ) (d : Bool) :
    (Rd xs ws).payload (sendCell ch c) r d = sendPay xs ws ch (lo ch + r) c := by
  have g := ssem_lt ch
  show dmaPay xs ws (ssem ch).val r c = _
  unfold dmaPay
  rw [if_neg (by omega), ringOf_ssem]

theorem rest_bar : bigSep ((Rd xs ws).duties (barCell c) 0 \ ∅) (fun d => (Rd xs ws).payload (barCell c) 0 d)
    = iprop(barPay c false ∗ barPay c true) := by
  rw [Finset.sdiff_empty, duties_bar, bigSep_univ_eq_bigSepL [false, true] (by decide) (by decide),
    bigSepL_cons_cons, bigSepL_singleton, payload_bar, payload_bar]
  rfl

theorem rest_recv (ch : Fin 4) (u : ℕ) (h : lo ch ≤ u) (h' : u < hi ch) :
    bigSep ((Rd xs ws).duties (recvCell ch u c) 0 \ ∅) (fun d => (Rd xs ws).payload (recvCell ch u c) 0 d)
      = recvPay xs ws ch u c := by
  rw [Finset.sdiff_empty, duties_recv xs ws c ch u h h', bigSep_singleton,
    payload_recv xs ws c ch u (lt_of_lt_of_le h' (hi_le ch))]

theorem rest_send (ch : Fin 4) (r : ℕ) (h' : lo ch + r < hi ch) :
    bigSep ((Rd xs ws).duties (sendCell ch c) r \ ∅) (fun d => (Rd xs ws).payload (sendCell ch c) r d)
      = sendPay xs ws ch (lo ch + r) c := by
  rw [Finset.sdiff_empty, duties_send xs ws c ch r h', bigSep_singleton, payload_send]

end Tables
end Values

/-! ## Levels and debts -/

/-- A device's own cells are its TensorCore's. -/
def L (g : GSem nD τ sig) : Finset Unit := if g.1.2 = .tc then {()} else ∅

/-- The level of a cell. -/
def lv (g : GSem nD τ sig) (_ : Unit) : ℕ := match g.2 with
  | .reg _ => 1
  | .dma s => if 7 ≤ s.val then 2 + (ringOf s.val).2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (ch : Fin 4) (u : ℕ) (h : u < 16) (c : Dev nD) : lv (recvCell ch u c) () = 2 + u := by
  have g := rsem_ge ch ⟨u, h⟩
  have e := ringOf_rsem ch ⟨u, h⟩
  show (if 7 ≤ (rsem ch u).val then 2 + (ringOf (rsem ch u).val).2 else 0) = _
  dsimp only at e g
  rw [if_pos g, e]

theorem lv_bar (c : Dev nD) (i : Unit) : 0 < lv (barCell c) i := Nat.one_pos

theorem lv_low (s : DmaSem sig) (h : s.val < 7) (c : Dev nD) : lv ((c : Thread nD τ), .dma s) () = 0 :=
  if_neg (by omega)

/-- What a device owes when its next transfers are `nx`: the credit of every transfer from there on. -/
def debt (c : Dev nD) (nx : Fin 4 → ℕ) : CellTallies nD τ sig Unit :=
  ∑ ch : Fin 4, ∑ u ∈ Finset.Ico (nx ch) (hi ch), tallyAt (recvCell ch u (nxt ch c)) () N

/-- At the start: all of that and a signal to both neighbours. -/
def debt₁ (c : Dev nD) : CellTallies nD τ sig Unit := debt c lo + tallyAt (barCell (nxt 0 c)) () 1
def debt₀ (c : Dev nD) : CellTallies nD τ sig Unit := debt₁ c + tallyAt (barCell (nxt 2 c)) () 1

theorem debt_step (c : Dev nD) (ch : Fin 4) (nx : Fin 4 → ℕ) (u : ℕ) (e : nx ch = u) (h : u < hi ch) :
    debt c nx = debt c (Function.update nx ch (u + 1)) + tallyAt (recvCell ch u (nxt ch c)) () N := by
  unfold debt
  rw [← Finset.add_sum_erase _ _ (Finset.mem_univ ch), ← Finset.add_sum_erase (Finset.univ : Finset (Fin 4))
    (fun ch' => ∑ u ∈ Finset.Ico (Function.update nx ch (u + 1) ch') (hi ch'), tallyAt (recvCell ch' u (nxt ch' c)) () N)
    (Finset.mem_univ ch)]
  rw [Finset.sum_congr (s₁ := Finset.univ.erase ch) rfl fun ch' hc => by
    rw [← Function.update_of_ne (Finset.ne_of_mem_erase hc) (u + 1) nx]]
  rw [Function.update_self, e, show Finset.Ico u (hi ch) = insert u (Finset.Ico (u + 1) (hi ch)) by
      ext x; rw [Finset.mem_insert, Finset.mem_Ico, Finset.mem_Ico]; omega,
    Finset.sum_insert (fun hm => by have := (Finset.mem_Ico.mp hm).1; omega), add_assoc, add_comm]

theorem debt_none (c : Dev nD) (nx : Fin 4 → ℕ) (h : ∀ ch, hi ch ≤ nx ch) : debt c nx = 0 := by
  unfold debt
  exact Finset.sum_eq_zero fun ch _ => by rw [Finset.Ico_eq_empty_of_le (h ch)]; rfl

theorem debt_pos (c : Dev nD) (nx : Fin 4 → ℕ) {g : GSem nD τ sig} {i : Unit} (h : 0 < debt c nx g i) :
    ∃ ch u, nx ch ≤ u ∧ u < hi ch ∧ g = recvCell ch u (nxt ch c) := by
  unfold debt at h
  rw [Finset.sum_apply, Finsupp.finset_sum_apply] at h
  obtain ⟨ch, -, h⟩ := Finset.exists_ne_zero_of_sum_ne_zero (Nat.pos_iff_ne_zero.mp h)
  rw [Finset.sum_apply, Finsupp.finset_sum_apply] at h
  obtain ⟨u, hu, h⟩ := Finset.exists_ne_zero_of_sum_ne_zero h
  rw [tallyAt_apply] at h
  refine ⟨ch, u, (Finset.mem_Ico.mp hu).1, (Finset.mem_Ico.mp hu).2, ?_⟩
  by_contra hn
  exact h (if_neg fun h' => hn h'.1)

/-- A wait at a level below what is owed. -/
theorem may_wait (c : Dev nD) (sm : SemLoc sig) (k : ℕ) (nx : Fin 4 → ℕ) (hk : lv ((c : Thread nD τ), sm) () ≤ k)
    (h : ∀ ch, nx ch < hi ch → k < 2 + nx ch) :
    (levAts L lv : sProp 𝕄) ⊢ MayWait (c : Thread nD τ) sm () (debt c nx) :=
  MayOwe.of_cut (L := L) (lev := lv) k
    (fun p hp => by rw [Finset.mem_singleton.mp hp, L_tc]; exact Finset.mem_singleton_self _)
    (fun g u hg => by
      obtain ⟨ch, u, -, -, rfl⟩ := debt_pos c nx hg
      rw [L_tc]; exact Finset.mem_singleton_self _)
    (fun p hp => by rw [Finset.mem_singleton.mp hp]; exact hk)
    (fun g i hg => by
      obtain ⟨ch, u, h1, h2, rfl⟩ := debt_pos c nx hg
      cases i
      rw [lv_recv ch u (lt_of_lt_of_le h2 (hi_le ch))]
      have := h ch (lt_of_le_of_lt h1 h2)
      omega)

theorem may_wait_recv (c : Dev nD) (ch : Fin 4) (u : ℕ) (hu : u < 16) (nx : Fin 4 → ℕ)
    (h : ∀ ch, nx ch < hi ch → u < nx ch) :
    (levAts L lv : sProp 𝕄) ⊢ MayWait (c : Thread nD τ) (.dma (rsem ch u)) () (debt c nx) :=
  may_wait c _ (2 + u) nx (lv_recv ch u hu c).le fun ch h' => by have := h ch h'; omega

theorem may_wait_low (c : Dev nD) (s : DmaSem sig) (hs : s.val < 7) (nx : Fin 4 → ℕ) :
    (levAts L lv : sProp 𝕄) ⊢ MayWait (c : Thread nD τ) (.dma s) () (debt c nx) :=
  may_wait c _ 0 nx (lv_low s hs c).le fun ch h' => by omega

theorem may_wait_bar (c : Dev nD) (nx : Fin 4 → ℕ) :
    (levAts L lv : sProp 𝕄) ⊢ MayWait (c : Thread nD τ) (.reg bar) () (debt c nx) :=
  may_wait c _ 1 nx (le_refl 1) fun ch h' => by omega

/-- A staging wait while everything is owed. -/
theorem may_wait_stage (c : Dev nD) (s : DmaSem sig) (hs : s.val < 7) :
    (levAts L lv : sProp 𝕄) ⊢ MayWait (c : Thread nD τ) (.dma s) () (debt₀ c) := by
  have key : ∀ (g : GSem nD τ sig) (i : Unit), 0 < debt₀ c g i → g.1.2 = .tc ∧ 0 < lv g i := by
    intro g i hg
    unfold debt₀ debt₁ at hg
    rw [Pi.add_apply, Finsupp.add_apply, Pi.add_apply, Finsupp.add_apply, tallyAt_apply, tallyAt_apply] at hg
    by_cases h1 : g = barCell (nxt 2 c) ∧ i = ()
    · rw [h1.1]; exact ⟨rfl, lv_bar _ _⟩
    by_cases h2 : g = barCell (nxt 0 c) ∧ i = ()
    · rw [h2.1]; exact ⟨rfl, lv_bar _ _⟩
    rw [if_neg h1, if_neg h2, Nat.add_zero] at hg
    obtain ⟨ch, u, -, h3, rfl⟩ := debt_pos c lo hg
    cases i
    refine ⟨rfl, ?_⟩
    rw [lv_recv ch u (lt_of_lt_of_le h3 (hi_le ch))]
    omega
  refine MayOwe.of_cut (L := L) (lev := lv) 0
    (fun p hp => by rw [Finset.mem_singleton.mp hp, L_tc]; exact Finset.mem_singleton_self _)
    (fun g i hg => by unfold L; rw [if_pos (key g i hg).1]; exact Finset.mem_singleton_self _)
    (fun p hp => by rw [Finset.mem_singleton.mp hp]; exact (lv_low s hs c).le)
    (fun g i hg => (key g i hg).2)

end Cert.KernelIdeal.Own
end
-- ==== Proof.Access.lean ====
module

public import proofs.«01_k».proof.Proof.Sched

/-!
# Loads and stores

One rule per load or store of the body: of a slot, of a send buffer, of rows and blocks of the whole
buffers. Each says what is needed, what is read or left, and that the rest of the body goes on from there.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The rest `p` of a device's body ends in `Q`. -/
abbrev WP (c : Dev nD) (p : Pr F) (Q : PUnit.{1} → sProp 𝕄) : sProp 𝕄 :=
  wp frame (wpE (defs₀ (F := F)) 𝒱₀ (c : Thread nD τ) none) Set.univ p Q

variable (c : Dev nD) (Q : PUnit.{1} → sProp (MT nD τ sig Unit (Elt F) ℕ UU ℕ))

/-! ## Slots -/

theorem slot_set (ch : Fin 4) (u : ℕ) :
    (slot ch u).view.set = ((rbuf ch u).access (slotR ch u) : View sig .tc _ _ _).set :=
  View.set_reshape _ _

/-- What a load of a slot reads is the slot's contents at the shape of the load. -/
theorem slot_read (ch : Fin 4) (u : ℕ) (f : (slot ch u).view.ty.Contents (Elt F)) :
    shapeCast S128x1024 (((rbuf ch u).access (slotR ch u) : View sig .tc _ _ _).read (Elt F) f)
        shapeCasts_S1x128x1024_S128x1024
      = (slot ch u).view.read (Elt F) f := rfl

/-- Load a slot, any share of it. -/
theorem wp_ldSlot (ch : Fin 4) (u : ℕ) (q : PosShare TreeShare) (v : FVec F S128x1024 .bf16)
    (k : Vec F S1x128x1024 .bf16 → Pr F) :
    Sl ch u q c v
      ⊢ iprop((∀ x, ⌜shapeCast S128x1024 x shapeCasts_S1x128x1024_S128x1024 = v⌝ -∗ Sl ch u q c v -∗ WP c (k x) Q)
          -∗ WP c (ldSlot ch u k) Q) := by
  unfold Sl owns ldSlot
  iintro ⟨%f, %hf, H⟩ Hk
  iapply (wp_load_rect 𝒱₀ (c : Thread nD τ) none Set.univ (m := rbuf ch u) (r := slotR ch u)
    (S := (slot ch u).view.set) (subset_of_eq (slot_set ch u).symm)) $$ H
  iintro H
  iapply Hk $$ %_ [] [H]
  · ipureintro
    exact (slot_read ch u f).trans hf
  · iexists f
    isplitr
    · ipureintro; exact hf
    · iexact H

/-! ## Send buffers -/

/-- Fill a send buffer. -/
theorem wp_fill (ch : Fin 4) (v : FVec F S128x1024 .bf16) (k : Pr F) :
    iprop(∃ v₀, SB ch c v₀) ⊢ iprop((SB ch c v -∗ WP c k Q) -∗ WP c (fill ch v k) Q) := by
  unfold SB owns fill
  iintro ⟨%v₀, %f, %hf, H⟩ Hk
  iapply (wp_load_rect 𝒱₀ (c : Thread nD τ) none Set.univ (m := sfull ch) (r := halfR ch)
    (S := (sbuf ch).view.set) (Finset.Subset.refl _)) $$ H
  iintro H
  iapply (wp_store 𝒱₀ (c : Thread nD τ) none Set.univ (m := sfull ch) (r := halfR ch)
    (S := (sbuf ch).view.set) (Finset.Subset.refl _)) $$ H
  iintro H
  iapply Hk
  iexists _
  isplitr
  swap
  · iexact H
  · ipureintro
    exact View.read_write_univ _ _

/-! ## The own product -/

/-- What a load of rows of the own product reads. -/
theorem rows_read (p : ℕ) (ch : Fin 4) (off : Fin 2 → ℕ) (h : ∀ a, off a + S128x1024.size a ≤ S2048x2048.size a)
    (hoff : off = ![128 * (p % 16), hc ch]) (f : S2048x2048.Idx → Elt F .bf16) :
    (Memref.whole cc0_scratch0).view.readAt (Elt F) (Rect.unit (s := S2048x2048) off S128x1024.size h).toLoadRect f
      = blk p ch f := by
  subst hoff
  rfl

theorem rowsAt_mod (ch : Fin 4) (c : Dev nD) (r : ℕ) : rowsAt ch c r % 16 = rowsAt ch c r := by
  unfold rowsAt
  fin_cases ch <;> exact Nat.mod_mod _ _

theorem wp_ldRows (ch : Fin 4) (r : Fin 7) (f : S2048x2048.Idx → Elt F .bf16)
    (k : Vec F S128x1024 .bf16 → Pr F) :
    (((c : Thread nD τ).loc cc0_scratch0) ↦{fullShare} f : sProp 𝕄)
      ⊢ iprop(((((c : Thread nD τ).loc cc0_scratch0) ↦{fullShare} f) -∗ WP c (k (blk (rowsAt ch c r.val) ch f)) Q)
          -∗ WP c (ldRows ch c r k) Q) := by
  unfold ldRows
  have e := rows_read (rowsAt ch c r.val) ch (rowsOff ch c r) (rowsOff_inb ch c r)
    ((rowsOff_eq ch c r).trans (by rw [rowsAt_mod])) f
  iintro H Hk
  iapply (wp_load 𝒱₀ (c : Thread nD τ) none Set.univ (m := Memref.whole cc0_scratch0) (Finset.subset_univ _)) $$ H
  iintro H
  rw [e]
  iapply Hk
  iexact H

/-! ## The result -/

/-- A block written into a result. -/
def put (k : ℕ) (ch : Fin 4) (v : FVec F S128x1024 .f32) (f : S2048x2048.Idx → Elt F .f32) :
    S2048x2048.Idx → Elt F .f32 :=
  ((Memref.whole cc0_stg2_0).access (blkR k ch) : View sig .tc _ _ _).write (Elt F) f v Finset.univ

theorem put_at (k : ℕ) (ch : Fin 4) (v : FVec F S128x1024 .f32) (f : S2048x2048.Idx → Elt F .f32)
    (j : S128x1024.Idx) : put k ch v f ((blkR k ch).emb j) = v j :=
  (View.write_emb_of_mem (v := ((Memref.whole cc0_stg2_0).access (blkR k ch) : View sig .tc _ _ _)) f v
    (M := Finset.univ) (x := j) (Finset.mem_univ _)).trans rfl

theorem put_off (k : ℕ) (ch : Fin 4) (v : FVec F S128x1024 .f32) (f : S2048x2048.Idx → Elt F .f32)
    (i : S2048x2048.Idx) (h : i ∉ (blkR k ch).set) : put k ch v f i = f i := by
  unfold put
  refine View.write_of_not_mem (v := ((Memref.whole cc0_stg2_0).access (blkR k ch) : View sig .tc _ _ _)) f v
    Finset.univ (i := i) fun hm => h ?_
  have e : ((View.whole cc0_stg2_0).slice (blkR k ch)).set = (blkR k ch).set :=
    View.set_slice_whole cc0_stg2_0 (blkR k ch)
  rw [← e]
  exact hm

/-- What a load of a block of the result reads. -/
theorem blk_read (p : ℕ) (ch : Fin 4) (off : Fin 2 → ℕ) (h : ∀ a, off a + S128x1024.size a ≤ S2048x2048.size a)
    (hoff : off = ![128 * (p % 16), hc ch]) (f : S2048x2048.Idx → Elt F .f32) :
    (Memref.whole cc0_stg2_0).view.readAt (Elt F) (Rect.unit (s := S2048x2048) off S128x1024.size h).toLoadRect f
      = blk p ch f := by
  subst hoff
  rfl

/-- What a store of a block leaves. -/
theorem blk_write (p : ℕ) (ch : Fin 4) (off : Fin 2 → ℕ) (h : ∀ a, off a + S128x1024.size a ≤ S2048x2048.size a)
    (hoff : off = ![128 * (p % 16), hc ch]) (f : S2048x2048.Idx → Elt F .f32) (v : FVec F S128x1024 .f32) :
    ((Memref.whole cc0_stg2_0).access (Rect.unit (s := S2048x2048) off S128x1024.size h)
      : View sig .tc _ _ _).write (Elt F) f v Finset.univ = put p ch v f := by
  subst hoff
  rfl

/-- Load a block of the result. -/
theorem wp_ldBlk (p : ℕ) (ch : Fin 4) (off : Fin 2 → ℕ) (h : ∀ a, off a + S128x1024.size a ≤ S2048x2048.size a)
    (hoff : off = ![128 * (p % 16), hc ch]) (f : S2048x2048.Idx → Elt F .f32) (k : Vec F S128x1024 .f32 → Pr F) :
    (((c : Thread nD τ).loc cc0_stg2_0) ↦{fullShare} f : sProp 𝕄)
      ⊢ iprop(((((c : Thread nD τ).loc cc0_stg2_0) ↦{fullShare} f) -∗ WP c (k (blk p ch f)) Q)
          -∗ WP c (.op (.load (Memref.whole cc0_stg2_0) (Rect.unit (s := S2048x2048) off S128x1024.size h).toLoadRect
      (View.loadsAt_vmem h_S128x1024)) k) Q) := by
  have e := blk_read p ch off h hoff f
  iintro H Hk
  iapply (wp_load 𝒱₀ (c : Thread nD τ) none Set.univ (m := Memref.whole cc0_stg2_0) (Finset.subset_univ _)) $$ H
  iintro H
  rw [e]
  iapply Hk
  iexact H

/-- Overwrite a block of the result. -/
theorem wp_stOut (p : ℕ) (ch : Fin 4) (off : Fin 2 → ℕ) (h : ∀ a, off a + S128x1024.size a ≤ S2048x2048.size a)
    (hoff : off = ![128 * (p % 16), hc ch]) (f : S2048x2048.Idx → Elt F .f32) (v : FVec F S128x1024 .f32) (k : Pr F) :
    (((c : Thread nD τ).loc cc0_stg2_0) ↦{fullShare} f : sProp 𝕄)
      ⊢ iprop(((((c : Thread nD τ).loc cc0_stg2_0) ↦{fullShare} put p ch v f) -∗ WP c k Q)
          -∗ WP c (stOut off h v k) Q) := by
  have e := blk_write p ch off h hoff f v
  unfold stOut
  iintro H Hk
  iapply (wp_load 𝒱₀ (c : Thread nD τ) none Set.univ (m := Memref.whole cc0_stg2_0) (Finset.subset_univ _)) $$ H
  iintro H
  iapply (wp_store 𝒱₀ (c : Thread nD τ) none Set.univ (m := Memref.whole cc0_stg2_0)
    (r := Rect.unit (s := S2048x2048) off S128x1024.size h) (Finset.subset_univ _)) $$ H
  iintro H
  rw [e]
  iapply Hk
  iexact H

/-! ## The operands and the whole product -/

theorem off_zero : (![0, 0] : Fin 2 → ℕ) = fun _ => 0 := funext fun a => by fin_cases a <;> rfl

/-- Load the second operand. -/
theorem wp_ldW (w : S128x2048.Idx → Elt F .bf16) (k : Vec F S128x2048 .bf16 → Pr F) :
    (((c : Thread nD τ).loc cc0_stg1_0) ↦{fullShare} w : sProp 𝕄)
      ⊢ iprop(((((c : Thread nD τ).loc cc0_stg1_0) ↦{fullShare} w) -∗ WP c (k w) Q) -∗ WP c (ldW k) Q) := by
  unfold ldW
  have e : (Memref.whole cc0_stg1_0).view.readAt (Elt F) (Rect.unit (s := S128x2048) ![0, 0] S128x2048.size
      inb_S128x2048_S128x2048_0_0).toLoadRect w = w :=
    Memref.readAt_unit_zero (Elt F) cc0_stg1_0 off_zero inb_S128x2048_S128x2048_0_0 w
  iintro H Hk
  iapply (wp_load 𝒱₀ (c : Thread nD τ) none Set.univ (m := Memref.whole cc0_stg1_0) (Finset.subset_univ _)) $$ H
  iintro H
  rw [e]
  iapply Hk
  iexact H

/-- What the first load of rows reads. -/
theorem x_read (p : ℕ) (off : Fin 2 → ℕ) (h : ∀ a, off a + S128x128.size a ≤ S2048x128.size a)
    (hoff : off = ![128 * (p % 16), 0]) (x : S2048x128.Idx → Elt F .bf16) :
    (Memref.whole cc0_stg0_0).view.readAt (Elt F) (Rect.unit (s := S2048x128) off S128x128.size h).toLoadRect x
      = rowBlk p x := by
  subst hoff
  rfl

/-- Load the rows the other end of the ring finishes. -/
theorem wp_ldX (x : S2048x128.Idx → Elt F .bf16) (k : Vec F S128x128 .bf16 → Pr F) :
    (((c : Thread nD τ).loc cc0_stg0_0) ↦{fullShare} x : sProp 𝕄)
      ⊢ iprop(((((c : Thread nD τ).loc cc0_stg0_0) ↦{fullShare} x) -∗ WP c (k (rowBlk (pos c + 8) x)) Q)
          -∗ WP c (.op (.load (Memref.whole cc0_stg0_0) (Rect.unit (s := S2048x128) (k0_off1 c) S128x128.size
    (k0_off1_inb c)).toLoadRect (View.loadsAt_vmem h_S128x128)) k) Q) := by
  have e := x_read (pos c + 8) (k0_off1 c) (k0_off1_inb c) (off1_eq c) x
  iintro H Hk
  iapply (wp_load 𝒱₀ (c : Thread nD τ) none Set.univ (m := Memref.whole cc0_stg0_0) (Finset.subset_univ _)) $$ H
  iintro H
  rw [e]
  iapply Hk
  iexact H

/-- The own product, into the result and, narrowed, into the scratch buffer. -/
theorem wp_compute (x : S2048x128.Idx → Elt F .bf16) (w : S128x2048.Idx → Elt F .bf16) (k : Pr F) :
    iprop((((c : Thread nD τ).loc cc0_stg0_0) ↦{fullShare} x) ∗ (((c : Thread nD τ).loc cc0_stg1_0) ↦{fullShare} w)
        ∗ (∃ f : S2048x2048.Idx → Elt F .f32, ((c : Thread nD τ).loc cc0_stg2_0) ↦{fullShare} f)
        ∗ (∃ f : S2048x2048.Idx → Elt F .bf16, ((c : Thread nD τ).loc cc0_scratch0) ↦{fullShare} f))
      ⊢ iprop((((((c : Thread nD τ).loc cc0_stg0_0) ↦{fullShare} x) ∗ (((c : Thread nD τ).loc cc0_stg1_0) ↦{fullShare} w)
            ∗ (((c : Thread nD τ).loc cc0_stg2_0) ↦{fullShare} prod x w)
            ∗ (((c : Thread nD τ).loc cc0_scratch0) ↦{fullShare} prodN (prod x w))) -∗ WP c k Q)
          -∗ WP c (compute k) Q) := by
  unfold compute ldOut
  have e0 : (Memref.whole cc0_stg0_0).view.readAt (Elt F) (Rect.unit (s := S2048x128) ![0, 0] S2048x128.size
      inb_S2048x128_S2048x128_0_0).toLoadRect x = x :=
    Memref.readAt_unit_zero (Elt F) cc0_stg0_0 off_zero inb_S2048x128_S2048x128_0_0 x
  have e2 : (Memref.whole cc0_stg2_0).view.readAt (Elt F) (Rect.unit (s := S2048x2048) ![0, 0] S2048x2048.size
      inb_S2048x2048_S2048x2048_0_0).toLoadRect (prod x w) = prod x w :=
    Memref.readAt_unit_zero (Elt F) cc0_stg2_0 off_zero inb_S2048x2048_S2048x2048_0_0 (prod x w)
  have e3 : ∀ f, ((Memref.whole cc0_stg2_0).access (Rect.unit (s := S2048x2048) ![0, 0] S2048x2048.size
      inb_S2048x2048_S2048x2048_0_0) : View sig .tc _ _ _).write (Elt F) f (prod x w) Finset.univ = prod x w :=
    fun f => Memref.write_access_unit_zero_univ (Elt F) cc0_stg2_0 off_zero inb_S2048x2048_S2048x2048_0_0 f (prod x w)
  have e4 : ∀ f, ((Memref.whole cc0_scratch0).access (Rect.unit (s := S2048x2048) ![0, 0] S2048x2048.size
      inb_S2048x2048_S2048x2048_0_0) : View sig .tc _ _ _).write (Elt F) f (prodN (prod x w)) Finset.univ = prodN (prod x w) :=
    fun f => Memref.write_access_unit_zero_univ (Elt F) cc0_scratch0 off_zero inb_S2048x2048_S2048x2048_0_0 f
      (prodN (prod x w))
  iintro ⟨Hx, Hw, ⟨%f2, Ho⟩, %f3, Hp⟩ Hk
  iapply (wp_load 𝒱₀ (c : Thread nD τ) none Set.univ (m := Memref.whole cc0_stg0_0) (Finset.subset_univ _)) $$ Hx
  iintro Hx
  rw [e0]
  iapply (wp_ldW c Q w) $$ Hw
  iintro Hw
  iapply (wp_load 𝒱₀ (c : Thread nD τ) none Set.univ (m := Memref.whole cc0_stg2_0) (Finset.subset_univ _)) $$ Ho
  iintro Ho
  iapply (wp_store 𝒱₀ (c : Thread nD τ) none Set.univ (m := Memref.whole cc0_stg2_0)
    (r := Rect.unit (s := S2048x2048) ![0, 0] S2048x2048.size inb_S2048x2048_S2048x2048_0_0) (Finset.subset_univ _)) $$ Ho
  iintro Ho
  rw [e3]
  iapply (wp_load 𝒱₀ (c : Thread nD τ) none Set.univ (m := Memref.whole cc0_stg2_0) (Finset.subset_univ _)) $$ Ho
  iintro Ho
  rw [e2]
  iapply (wp_load 𝒱₀ (c : Thread nD τ) none Set.univ (m := Memref.whole cc0_scratch0) (Finset.subset_univ _)) $$ Hp
  iintro Hp
  iapply (wp_store 𝒱₀ (c : Thread nD τ) none Set.univ (m := Memref.whole cc0_scratch0)
    (r := Rect.unit (s := S2048x2048) ![0, 0] S2048x2048.size inb_S2048x2048_S2048x2048_0_0) (Finset.subset_univ _)) $$ Hp
  iintro Hp
  rw [e4]
  iapply Hk
  isplitl [Hx]; · iexact Hx
  isplitl [Hw]; · iexact Hw
  isplitl [Ho]; · iexact Ho
  iexact Hp

end Cert.KernelIdeal.Own
end
-- ==== Proof.Steps.lean ====
module

public import proofs.«01_k».proof.Proof.Access
public import Idealize.SL.BI.BigOpNat

/-!
# The steps of the protocol

The three steps that touch semaphores — wait for a landing, wait for a send to have left, start a copy —
with what a device holds of a chain before and after. All are symbolic in the chain and in the transfer.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## All cells of the ring -/

/-- A device's semaphores that the ring uses, by number. -/
def csem (k : Fin 69) : SemLoc sig :=
  if k.val = 0 then .reg bar else .dma ⟨k.val + 2, by have := k.isLt; show k.val + 2 < 71; omega⟩

/-- The cells of the ring by device and number. -/
abbrev kcell (ck : Dev nD × Fin 69) : GSem nD τ sig := ((ck.1 : Thread nD τ), csem ck.2)

/-- The number of a receive semaphore, -/
def kR (ch : Fin 4) (u : ℕ) : Fin 69 :=
  ⟨(rsem ch u).val - 2, by have : (rsem ch u).val < 71 := (rsem ch u).isLt; omega⟩

/-- and of a send semaphore. -/
def kS (ch : Fin 4) : Fin 69 := ⟨(ssem ch).val - 2, by have := ssem_lt ch; omega⟩

theorem csem_bar : csem 0 = .reg bar := if_pos rfl

theorem csem_dma (s : DmaSem sig) (h : 3 ≤ s.val) (hk : s.val - 2 < 69) : csem ⟨s.val - 2, hk⟩ = .dma s := by
  unfold csem
  rw [if_neg (by dsimp only; omega)]
  congr 1
  exact Fin.ext (by dsimp only; omega)

theorem csem_recv (ch : Fin 4) (u : ℕ) (h : u < 16) : csem (kR ch u) = .dma (rsem ch u) :=
  csem_dma _ (by have := rsem_ge ch ⟨u, h⟩; dsimp only at this; omega) _

theorem csem_send (ch : Fin 4) : csem (kS ch) = .dma (ssem ch) :=
  csem_dma _ (by have := ssem_lt ch; omega) _

section Protocol
variable (xs : Dev nD → Vec F S2048x128 .bf16) (ws : Dev nD → Vec F S128x2048 .bf16)

/-- All cells run the protocol and have begun; and the levels. -/
def Recs : sProp 𝕄 :=
  iprop((∃ K : Dev nD × Fin 69 → ℕ, bigSep Finset.univ fun ck : Dev nD × Fin 69 =>
      iprop(cellInv ER (Rd xs ws) (K ck) (kcell ck) ∗ reached ER (kcell ck) 0)) ∗ levAts L lv)

instance Recs_persistent : BI.Persistent (Recs xs ws) := by unfold Recs; infer_instance

theorem recs_cell (ck : Dev nD × Fin 69) :
    Recs xs ws ⊢ iprop(∃ κ, cellInv ER (Rd xs ws) κ (kcell ck) ∗ reached ER (kcell ck) 0) := by
  unfold Recs
  iintro ⟨⟨%K, H⟩, -⟩
  iexists K ck
  iapply (show (bigSep Finset.univ fun ck : Dev nD × Fin 69 =>
      iprop(cellInv ER (Rd xs ws) (K ck) (kcell ck) ∗ reached ER (kcell ck) 0) : sProp 𝕄) ⊢ _ from
    bigSep_elim (Finset.mem_univ ck)) $$ H

theorem recs_wait_recv (c : Dev nD) (ch : Fin 4) (u : ℕ) (hu : u < 16) (nx : Fin 4 → ℕ)
    (h : ∀ ch, nx ch < hi ch → u < nx ch) :
    Recs xs ws ⊢ MayWait (c : Thread nD τ) (.dma (rsem ch u)) () (debt c nx) := by
  unfold Recs
  iintro ⟨-, H⟩
  iapply (may_wait_recv c ch u hu nx h) $$ H

theorem recs_wait_low (c : Dev nD) (s : DmaSem sig) (hs : s.val < 7) (nx : Fin 4 → ℕ) :
    Recs xs ws ⊢ MayWait (c : Thread nD τ) (.dma s) () (debt c nx) := by
  unfold Recs
  iintro ⟨-, H⟩
  iapply (may_wait_low c s hs nx) $$ H

theorem recs_wait_bar (c : Dev nD) (nx : Fin 4 → ℕ) :
    Recs xs ws ⊢ MayWait (c : Thread nD τ) (.reg bar) () (debt c nx) := by
  unfold Recs
  iintro ⟨-, H⟩
  iapply (may_wait_bar c nx) $$ H

theorem recs_bar (c : Dev nD) :
    Recs xs ws ⊢ iprop(∃ κ, cellInv ER (Rd xs ws) κ (barCell c) ∗ reached ER (barCell c) 0) := by
  have h := recs_cell xs ws (c, 0)
  dsimp only [kcell] at h
  rwa [csem_bar] at h

theorem recs_recv (ch : Fin 4) (u : ℕ) (hu : u < 16) (c : Dev nD) :
    Recs xs ws ⊢ iprop(∃ κ, cellInv ER (Rd xs ws) κ (recvCell ch u c) ∗ reached ER (recvCell ch u c) 0) := by
  have h := recs_cell xs ws (c, kR ch u)
  dsimp only [kcell] at h
  rwa [csem_recv ch u hu] at h

theorem recs_send (ch : Fin 4) (c : Dev nD) :
    Recs xs ws ⊢ iprop(∃ κ, cellInv ER (Rd xs ws) κ (sendCell ch c) ∗ reached ER (sendCell ch c) 0) := by
  have h := recs_cell xs ws (c, kS ch)
  dsimp only [kcell] at h
  rwa [csem_send ch] at h

/-! ## What a device holds of a chain -/

/-- For a transfer yet to be awaited: the credit and the position of its cell. -/
def due (ch : Fin 4) (c : Dev nD) (u : ℕ) : sProp 𝕄 :=
  iprop(cred (tallyAt (recvCell ch u c) () N) ∗ atPos ER (recvCell ch u c) 0 ∅ 0)

/-- All transfers from `j` on are yet to be awaited. -/
def Await (ch : Fin 4) (c : Dev nD) (j : ℕ) : sProp 𝕄 := bigSep (Finset.Ico j (hi ch)) (due ch c)

/-- For a transfer yet to be started: both duties and the slot it lands in. -/
def todo (ch : Fin 4) (c : Dev nD) (u : ℕ) : sProp 𝕄 :=
  iprop(dutyTok ER (sendCell ch c) (u - lo ch) true ∗ dutyTok ER (recvCell ch u (nxt ch c)) 0 true
    ∗ ∃ v, Sl ch u fullShare (nxt ch c) v)

/-- All transfers from `i` on are yet to be started. -/
def Left (ch : Fin 4) (c : Dev nD) (i : ℕ) : sProp 𝕄 := bigSep (Finset.Ico i (hi ch)) (todo ch c)

/-- The receive cells of the transfers before `j` are closed. -/
def Shut (ch : Fin 4) (c : Dev nD) (j : ℕ) : sProp 𝕄 :=
  bigSep (Finset.Ico (lo ch) j) fun u => semVal (recvCell ch u c) 0

/-- The slots before `j` are the device's own again. -/
def Kept (ch : Fin 4) (c : Dev nD) (j : ℕ) : sProp 𝕄 :=
  bigSep (Finset.Ico (lo ch) j) fun u => iprop(∃ v, Sl ch u fullShare c v)

/-- The send cell is at the round of transfer `n`. -/
def Turn (ch : Fin 4) (c : Dev nD) (n : ℕ) : sProp 𝕄 :=
  iprop(atPos ER (sendCell ch c) (n - lo ch) ∅ 0 ∗ reached ER (sendCell ch c) (n - lo ch))

/-- Transfer `u` is on its way. -/
def Fly (ch : Fin 4) (c : Dev nD) (u : ℕ) : sProp 𝕄 :=
  iprop(Turn ch c u ∗ cred (tallyAt (sendCell ch c) () N))

/-- The device owes all transfers from `nx` on. -/
def Owe (c : Dev nD) (nx : Fin 4 → ℕ) : sProp 𝕄 := iprop(∃ W, owes (c : Thread nD τ) (debt c nx) W)

theorem await_step (ch : Fin 4) (c : Dev nD) (u : ℕ) (h : u < hi ch) :
    (Await ch c u : sProp 𝕄) = iprop(due ch c u ∗ Await ch c (u + 1)) := bigSep_Ico_succ_bot h _

theorem left_step (ch : Fin 4) (c : Dev nD) (u : ℕ) (h : u < hi ch) :
    (Left ch c u : sProp 𝕄) = iprop(todo ch c u ∗ Left ch c (u + 1)) := bigSep_Ico_succ_bot h _

theorem shut_step (ch : Fin 4) (c : Dev nD) (u : ℕ) (h : lo ch ≤ u) :
    (Shut ch c (u + 1) : sProp 𝕄) = iprop(semVal (recvCell ch u c) 0 ∗ Shut ch c u) := bigSep_Ico_succ_top h _

theorem kept_step (ch : Fin 4) (c : Dev nD) (u : ℕ) (h : lo ch ≤ u) :
    (Kept ch c (u + 1) : sProp 𝕄) = iprop((∃ v, Sl ch u fullShare c v) ∗ Kept ch c u) := bigSep_Ico_succ_top h _

/-! ## The steps -/

variable (c : Dev nD) (Q : PUnit.{1} → sProp (MT nD τ sig Unit (Elt F) ℕ UU ℕ))

/-- Wait for transfer `u` to land: its cell closes and the slot comes with the contents. -/
theorem wp_wRecv (ch : Fin 4) (u : ℕ) (h : lo ch ≤ u) (h' : u < hi ch) (nx : Fin 4 → ℕ)
    (hnx : ∀ ch, nx ch < hi ch → u < nx ch) (k : Pr F) :
    iprop(Recs xs ws ∗ Await ch c u ∗ Shut ch c u ∗ Owe c nx)
      ⊢ iprop(((Await ch c (u + 1) ∗ Shut ch c (u + 1) ∗ Owe c nx ∗ Sl ch u fullShare c (V xs ws u ch (prv ch c)))
            -∗ WP c k Q) -∗ WP c (wRecv ch u k) Q) := by
  have h16 := lt_of_lt_of_le h' (hi_le ch)
  rw [await_step ch c u h', shut_step ch c u h]
  have hk : 0 + (slot ch u).view.dmaCredit = (Rd xs ws).expect (recvCell ch u c) 0 := by
    rw [Nat.zero_add, expect_recv xs ws c ch u h h', slot_credit]
  have e : ∀ K : PUnit → sProp 𝕄, wpE (defs₀ (F := F)) 𝒱₀ (c : Thread nD τ) none Set.univ
        (.waitDma2 (rsem ch u) (src ch u) (slot ch u) (src_exact ch u) (slot_exact ch u)) K
      = waitSpec (c : Thread nD τ) Set.univ (.dma (rsem ch u)) (slot ch u).view.dmaCredit K :=
    fun K => wpE_waitDma2_eq (src := src ch u) (dst := slot ch u) 𝒱₀ (c : Thread nD τ) none Set.univ K
  have key := fun (κ : ℕ) (W : Waits sig Unit) =>
    Rounds.wp_wait_rest_token (defs := defs₀ (F := F)) (κ := κ) 𝒱₀ ER (Rd xs ws) (c : Thread nD τ) none e
      (Set.mem_univ _) () (O := debt c nx) (W := W) (R := 0) (m := 0) (T := ∅) (k := fun _ => k) (Q := Q) hk
  unfold due Owe wRecv
  iintro ⟨#HR, ⟨⟨Hc, Ha⟩, Haw⟩, Hsh, %W, HO⟩ Hk
  ihave Hi := (recs_recv xs ws ch u h16 c) $$ HR
  icases Hi with ⟨%κ, #HI, -⟩
  iapply (key κ W) $$ [Hc HO Ha]
  · isplitr; · iexact HI
    rw [slot_credit]
    isplitl [Hc]; · iexact Hc
    isplitl [HO]; · iexact HO
    isplitr; · iapply (recs_wait_recv xs ws c ch u h16 nx hnx) $$ HR
    iexact Ha
  iintro ⟨HO, Ha, -, Hp⟩
  ihave Hs := (Entails.of_eq (rest_recv xs ws c ch u h h')) $$ Hp
  imod (Rounds.cell_close ER (Rd xs ws) (Set.mem_univ κ) (fun h => h) (R := 0 + 1) (no_recv xs ws c ch u h16)) $$ [Ha] with Hz
  · isplitr; · iexact HI
    iexact Ha
  iapply Hk
  isplitl [Haw]; · iexact Haw
  isplitl [Hsh Hz]
  · isplitl [Hz]; · iexact Hz
    iexact Hsh
  isplitl [HO]
  · iexists _; iexact HO
  unfold recvPay
  iexact Hs

/-- Wait for the own transfer `u` to have left: what it was lent comes back. -/
theorem wp_wSend (ch : Fin 4) (u : ℕ) (h : lo ch ≤ u) (h' : u < hi ch) (nx : Fin 4 → ℕ) (k : Pr F) :
    iprop(Recs xs ws ∗ Fly ch c u ∗ Owe c nx)
      ⊢ iprop(((Turn ch c (u + 1) ∗ Owe c nx ∗ sendPay xs ws ch u c) -∗ WP c k Q)
          -∗ WP c (wSend ch u k) Q) := by
  have hr : lo ch + (u - lo ch) < hi ch := by omega
  have e₁ : u + 1 - lo ch = u - lo ch + 1 := by omega
  have hk : 0 + (src ch u).view.dmaCredit = (Rd xs ws).expect (sendCell ch c) (u - lo ch) := by
    rw [Nat.zero_add, expect_send xs ws c ch _ hr, src_credit]
  have e : ∀ K : PUnit → sProp 𝕄, wpE (defs₀ (F := F)) 𝒱₀ (c : Thread nD τ) none Set.univ
        (.waitDma2 (ssem ch) (slot ch u) (src ch u) (slot_exact ch u) (src_exact ch u)) K
      = waitSpec (c : Thread nD τ) Set.univ (.dma (ssem ch)) (src ch u).view.dmaCredit K :=
    fun K => wpE_waitDma2_eq (src := slot ch u) (dst := src ch u) 𝒱₀ (c : Thread nD τ) none Set.univ K
  have key := fun (κ : ℕ) (W : Waits sig Unit) =>
    Rounds.wp_wait_rest_token (defs := defs₀ (F := F)) (κ := κ) 𝒱₀ ER (Rd xs ws) (c : Thread nD τ) none e
      (Set.mem_univ _) () (O := debt c nx) (W := W) (R := u - lo ch) (m := 0) (T := ∅) (k := fun _ => k) (Q := Q) hk
  unfold Fly Turn Owe wSend
  rw [e₁]
  iintro ⟨#HR, ⟨⟨Ha, -⟩, Hc⟩, %W, HO⟩ Hk
  ihave Hi := (recs_send xs ws ch c) $$ HR
  icases Hi with ⟨%κ, #HI, -⟩
  iapply (key κ W) $$ [Hc HO Ha]
  · isplitr; · iexact HI
    rw [src_credit]
    isplitl [Hc]; · iexact Hc
    isplitl [HO]; · iexact HO
    isplitr; · iapply (recs_wait_low xs ws c (ssem ch) (ssem_lt ch).2 nx) $$ HR
    iexact Ha
  iintro ⟨HO, Ha, Hre, Hp⟩
  ihave Hs := (Entails.of_eq (rest_send xs ws c ch _ hr)) $$ Hp
  rw [show lo ch + (u - lo ch) = u by omega]
  iapply Hk
  isplitl [Ha Hre]
  · isplitl [Ha]; · iexact Ha
    iexact Hre
  isplitl [HO]
  · iexists _; iexact HO
  iexact Hs

/-- Start transfer `u` to device `n`. -/
def startTo (ch : Fin 4) (u : ℕ) (n : Dev nD) (k : Pr F) : Pr F :=
  .op (.enqueueDma (src ch u) (.remote (Dev.tc n) (slot ch u) (.dma (ssem ch)))
    (.dma (rsem ch u)) (src_exact ch u) (slot_exact ch u) ⟨⟨rfl, Or.inl rfl⟩, trivial⟩) fun _ => k

theorem start_eq (ch : Fin 4) (u : ℕ) (c : Dev nD) (k : Pr F) : start ch u c k = startTo ch u (nxt ch c) k := by
  rw [← nbr_eq]
  rfl

/-- Start transfer `u`, from whatever it reads. -/
theorem wp_start (ch : Fin 4) (u : ℕ) (h : lo ch ≤ u) (h' : u < hi ch) (nx : Fin 4 → ℕ) (hnx : nx ch = u)
    (q : PosShare TreeShare)
    (hpay : (owns (c : Thread nD τ) (src ch u) q (V xs ws u ch c) : sProp 𝕄) ⊢ sendPay xs ws ch u c) (k : Pr F) :
    iprop(Recs xs ws ∗ Left ch c u ∗ Turn ch c u ∗ Owe c nx ∗ owns (c : Thread nD τ) (src ch u) q (V xs ws u ch c))
      ⊢ iprop(((Left ch c (u + 1) ∗ Fly ch c u ∗ Owe c (Function.update nx ch (u + 1))) -∗ WP c k Q)
          -∗ WP c (start ch u c k) Q) := by
  have h16 := lt_of_lt_of_le h' (hi_le ch)
  have hr : lo ch + (u - lo ch) < hi ch := by omega
  rw [start_eq]
  unfold startTo
  rw [left_step ch c u h']
  unfold todo Fly Turn Owe Sl owns
  iintro ⟨#HR, ⟨⟨Ht, Ht', %v, %fd, -, Hd⟩, Hl⟩, ⟨Ha, #Hre⟩, ⟨%W, HO⟩, %fs, %hfs, Hs⟩ Hk
  ihave Hi := (recs_send xs ws ch c) $$ HR
  icases Hi with ⟨%κ₁, #HI₁, -⟩
  ihave Hj := (recs_recv xs ws ch u h16 (nxt ch c)) $$ HR
  icases Hj with ⟨%κ₂, #HI₂, #Hre₂⟩
  iapply (Rounds.wp_send_pointsTo 𝒱₀ ER (Rd xs ws) (c : Thread nD τ) none (κ₁ := κ₁) (κ₂ := κ₂)
      (r₁ := u - lo ch) (r₂ := 0) (d₁ := true) (d₂ := true) (fd := fd) (fs := fs) (q := q)
      (by rw [duties_send xs ws c ch _ hr]; exact Finset.mem_singleton_self _)
      (by rw [duties_recv xs ws (nxt ch c) ch u h h']; exact Finset.mem_singleton_self _)
      () () N (show (slot ch u).view.amount (.dma (rsem ch u)) = N from slot_credit ch u) (amount_send xs ws c ch _ true) (amount_recv xs ws (nxt ch c) ch u 0 true)
      (debt c (Function.update nx ch (u + 1))) (debt_step c ch nx u hnx h') (W := W)
      (by
        rw [payload_send, show lo ch + (u - lo ch) = u by omega]
        refine BI.Entails.trans ?_ hpay
        rw [← hfs]
        exact owns_intro (c : Thread nD τ) (src ch u) q fs)
      (by
        rw [payload_recv xs ws (nxt ch c) ch u h16]
        unfold recvPay
        rw [prv_nxt, ← hfs]
        refine (owns_intro (nxt ch c : Thread nD τ) (slot ch u) fullShare _).trans ?_
        rw [View.read_write_univ])) $$ [Hs Hd HO Ht Ht']
  · isplitr; · iexact HI₁
    isplitr; · iexact HI₂
    isplitl [Hs]; · iexact Hs
    isplitl [Hd]; · iexact Hd
    isplitl [HO]; · iexact HO
    isplitl [Ht]; · iexact Ht
    isplitr; · iexact Hre
    isplitl [Ht']; · iexact Ht'
    iexact Hre₂
  iintro ⟨Hc, HO⟩
  iapply Hk
  isplitl [Hl]; · iexact Hl
  isplitl [Ha Hc]
  · isplitl [Ha]
    · isplitl [Ha]; · iexact Ha
      iexact Hre
    iexact Hc
  iexists W
  iexact HO

theorem src_buf (ch : Fin 4) (u : ℕ) (h : u ≤ 8) : src ch u = sbuf ch := by
  unfold src
  rw [show Nat.ble u 8 = true from Nat.ble_eq.mpr h]
  rfl

theorem src_slot (ch : Fin 4) (u : ℕ) (h : 8 < u) : src ch u = slot ch (u - 1) := by
  unfold src
  rw [show Nat.ble u 8 = false by cases hb : Nat.ble u 8; · rfl
                                  · exact absurd (Nat.ble_eq.mp hb) (by omega)]
  rfl

/-- Start a transfer out of the send buffer. -/
theorem wp_start_buf (ch : Fin 4) (u : ℕ) (h : lo ch ≤ u) (h8 : u ≤ 8) (nx : Fin 4 → ℕ) (hnx : nx ch = u) (k : Pr F) :
    iprop(Recs xs ws ∗ Left ch c u ∗ Turn ch c u ∗ Owe c nx ∗ SB ch c (V xs ws u ch c))
      ⊢ iprop(((Left ch c (u + 1) ∗ Fly ch c u ∗ Owe c (Function.update nx ch (u + 1))) -∗ WP c k Q)
          -∗ WP c (start ch u c k) Q) := by
  have h' : u < hi ch := lt_of_le_of_lt h8 (by fin_cases ch <;> decide)
  have key := wp_start xs ws c Q ch u h h' nx hnx fullShare
  rw [src_buf ch u h8] at key
  refine key ?_ k
  unfold sendPay
  rw [if_pos h8]
  iintro H
  iexists _
  iexact H

/-- A slot held whole is two halves of it. -/
theorem slot_halves (ch : Fin 4) (u : ℕ) (v : FVec F S128x1024 .bf16) :
    (Sl ch u fullShare c v : sProp 𝕄) ⊢ iprop(Sl ch u fullShare.left c v ∗ Sl ch u fullShare.right c v) := by
  unfold Sl owns
  iintro ⟨%f, %hf, H⟩
  ihave H' := (pointsTo_share (PosShare.mem_left_op_right fullShare)).1 $$ H
  icases H' with ⟨Ha, Hb⟩
  isplitl [Ha]
  · iexists f
    isplitr; · ipureintro; exact hf
    iexact Ha
  · iexists f
    isplitr; · ipureintro; exact hf
    iexact Hb

/-- And back. -/
theorem slot_join (ch : Fin 4) (u : ℕ) (v v' : FVec F S128x1024 .bf16) :
    iprop(Sl ch u fullShare.left c v ∗ Sl ch u fullShare.right c v') ⊢ (Sl ch u fullShare c v : sProp 𝕄) := by
  unfold Sl owns
  iintro ⟨⟨%f, %hf, Ha⟩, %g, %hg, Hb⟩
  ihave Hag := (persistent_entails_right pointsTo_agree) $$ [Ha Hb]
  · isplitl [Ha] <;> iassumption
  icases Hag with ⟨%hag, Ha, Hb⟩
  ihave Hb' := (Entails.of_eq (pointsTo_congr (f := g) (g := f) fun i hi =>
    ((hag i (Finset.mem_inter.mpr ⟨hi, hi⟩)).1).symm)) $$ Hb
  iexists f
  isplitr; · ipureintro; exact hf
  iapply (pointsTo_share (PosShare.mem_left_op_right fullShare)).2
  isplitl [Ha] <;> iassumption

/-- Pass on what transfer `u - 1` brought: half of its slot is lent, the other half stays. -/
theorem wp_start_slot (ch : Fin 4) (u : ℕ) (h8 : 8 < u) (h' : u < hi ch) (nx : Fin 4 → ℕ) (hnx : nx ch = u) (k : Pr F) :
    iprop(Recs xs ws ∗ Left ch c u ∗ Turn ch c u ∗ Owe c nx ∗ Sl ch (u - 1) fullShare c (V xs ws (u - 1) ch (prv ch c)))
      ⊢ iprop(((Left ch c (u + 1) ∗ Fly ch c u ∗ Owe c (Function.update nx ch (u + 1))
              ∗ Sl ch (u - 1) fullShare.left c (V xs ws (u - 1) ch (prv ch c))) -∗ WP c k Q)
          -∗ WP c (start ch u c k) Q) := by
  have h : lo ch ≤ u := le_trans (lo_le ch) (by omega)
  have eV : V xs ws u ch c = V xs ws (u - 1) ch (prv ch c) := by
    have e := V_ag xs ws ch c (u - 1) (by omega)
    rwa [show u - 1 + 1 = u by omega] at e
  have key := wp_start xs ws c Q ch u h h' nx hnx fullShare.right
  rw [src_slot ch u h8] at key
  have key' := key (by unfold sendPay; rw [if_neg (by omega)]) k
  iintro ⟨#HR, Hl, Ht, HO, Hs⟩ Hk
  ihave Hs' := (slot_halves c ch (u - 1) _) $$ Hs
  icases Hs' with ⟨Ha, Hb⟩
  iapply key' $$ [Hl Ht HO Hb]
  · isplitr; · iexact HR
    isplitl [Hl]; · iexact Hl
    isplitl [Ht]; · iexact Ht
    isplitl [HO]; · iexact HO
    rw [eV]
    iexact Hb
  iintro ⟨Hl, Hf, HO⟩
  iapply Hk
  isplitl [Hl]; · iexact Hl
  isplitl [Hf]; · iexact Hf
  isplitl [HO]; · iexact HO
  iexact Ha

end Protocol

end Cert.KernelIdeal.Own
end
-- ==== Proof.Result.lean ====
module

public import proofs.«01_k».proof.Proof.Access

/-!
# The result block by block

Which block of the result is stored when, and that the stored blocks together are the whole result.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The result, block by block -/

theorem place_lt (i : S2048x2048.Idx) : (i 0).val < 2048 := (i 0).isLt

theorem col_lt (i : S2048x2048.Idx) : (i 1).val < 2048 := (i 1).isLt

/-- The place of the ring whose rows an element is in. -/
def place (i : S2048x2048.Idx) : ℕ := (i 0).val / 128

/-- The clockwise chain of an element's half of the columns. -/
def sideOf (i : S2048x2048.Idx) : Fin 4 := if (i 1).val < 1024 then 0 else 1

/-- An element's position in its block. -/
def inBlk (i : S2048x2048.Idx) : S128x1024.Idx
  | 0 => ⟨(i 0).val % 128, Nat.mod_lt _ (by decide)⟩
  | 1 => ⟨(i 1).val % 1024, Nat.mod_lt _ (by decide)⟩

theorem emb_row (k : ℕ) (ch : Fin 4) (j : S128x1024.Idx) : ((blkR k ch).emb j 0).val = 128 * (k % 16) + (j 0).val :=
  congrArg (128 * (k % 16) + ·) (Nat.one_mul _)

theorem emb_col (k : ℕ) (ch : Fin 4) (j : S128x1024.Idx) : ((blkR k ch).emb j 1).val = hc ch + (j 1).val :=
  congrArg (hc ch + ·) (Nat.one_mul _)

theorem mem_blk (k : ℕ) (ch : Fin 4) (i : S2048x2048.Idx) (h : i ∈ (blkR k ch).set) : ∃ j, (blkR k ch).emb j = i :=
  (blkR k ch).toLoadRect.exists_idx_of_mem h

theorem idx_ext {i i' : S2048x2048.Idx} (h0 : (i 0).val = (i' 0).val) (h1 : (i 1).val = (i' 1).val) : i = i' := by
  funext a
  fin_cases a
  · exact Fin.ext h0
  · exact Fin.ext h1

theorem row_lt (j : S128x1024.Idx) : (j 0).val < 128 := (j 0).isLt

theorem wide_lt (j : S128x1024.Idx) : (j 1).val < 1024 := (j 1).isLt

theorem hc_cases (ch : Fin 4) : (hc ch = 0 ∧ cwOf ch = 0) ∨ (hc ch = 1024 ∧ cwOf ch = 1) := by
  revert ch; decide

theorem place_emb (k : ℕ) (ch : Fin 4) (j : S128x1024.Idx) : place ((blkR k ch).emb j) = k % 16 := by
  unfold place
  rw [emb_row]
  have := row_lt j
  omega

theorem side_emb (k : ℕ) (ch : Fin 4) (j : S128x1024.Idx) : sideOf ((blkR k ch).emb j) = cwOf ch := by
  unfold sideOf
  rw [emb_col]
  have := wide_lt j
  rcases hc_cases ch with ⟨h, e⟩ | ⟨h, e⟩ <;> rw [h, e]
  · exact if_pos (by omega)
  · exact if_neg (by omega)

theorem inBlk_emb (k : ℕ) (ch : Fin 4) (j : S128x1024.Idx) : inBlk ((blkR k ch).emb j) = j := by
  have h0 := row_lt j
  have h1 := wide_lt j
  funext a
  fin_cases a
  · refine Fin.ext ?_
    show ((blkR k ch).emb j 0).val % 128 = (j 0).val
    rw [emb_row]
    omega
  · refine Fin.ext ?_
    show ((blkR k ch).emb j 1).val % 1024 = (j 1).val
    rw [emb_col]
    rcases hc_cases ch with ⟨h, -⟩ | ⟨h, -⟩ <;> rw [h] <;> omega

/-- Every element is in the block of its place and half. -/
theorem emb_inBlk (i : S2048x2048.Idx) : (blkR (place i) (sideOf i)).emb (inBlk i) = i := by
  have h0 := place_lt i
  have h1 := col_lt i
  refine idx_ext ?_ ?_
  · rw [emb_row]
    show 128 * ((i 0).val / 128 % 16) + (i 0).val % 128 = (i 0).val
    omega
  · rw [emb_col]
    show hc (sideOf i) + (i 1).val % 1024 = (i 1).val
    unfold sideOf
    split
    · show 0 + (i 1).val % 1024 = (i 1).val
      omega
    · show 1024 + (i 1).val % 1024 = (i 1).val
      omega

variable (xs : Dev nD → Vec F S2048x128 .bf16) (ws : Dev nD → Vec F S128x2048 .bf16)

theorem Z_side (ch : Fin 4) (c : Dev nD) : Z xs ws (cwOf ch) c = Z xs ws ch c := by
  fin_cases ch <;> rfl

/-- The block of device `c`'s result at a place: its own as it is, every other as it was passed on. -/
def resBlk (c : Dev nD) (k : ℕ) (ch : Fin 4) : FVec F S128x1024 .f32 :=
  if k = pos c then Z xs ws ch c else wideV (narrow (Z xs ws ch (dev k)))

/-- Device `c`'s result. -/
def res (c : Dev nD) : S2048x2048.Idx → Elt F .f32 :=
  fun i => resBlk xs ws c (place i) (sideOf i) (inBlk i)

theorem blk_res (c : Dev nD) (k : ℕ) (ch : Fin 4) : blk k ch (res xs ws c) = resBlk xs ws c (k % 16) ch := by
  funext j
  show resBlk xs ws c (place ((blkR k ch).emb j)) (sideOf ((blkR k ch).emb j)) (inBlk ((blkR k ch).emb j)) = _
  rw [place_emb, side_emb, inBlk_emb]
  unfold resBlk
  rw [Z_side, Z_side]

theorem outAt_back (ch : Fin 4) (c : Dev nD) (r : Fin 7) : outAt ch (prv ch c) r.val = outAt ch c (r.val + 1) := by
  revert ch c r; decide

theorem outAt_ne (ch : Fin 4) (c : Dev nD) (r : Fin 8) : outAt ch c r.val ≠ pos c ∧ outAt ch c r.val < 16 := by
  revert ch c r; decide

theorem prv_eq (ch : Fin 4) (c : Dev nD) : prv ch c = dev (outAt ch c 0) := by revert ch c; decide

/-- What all-gather step `r` brings is the block of the device at that place. -/
theorem V_gather (ch : Fin 4) (r : ℕ) (hr : r < 8) (c : Dev nD) :
    V xs ws (8 + r) ch (prv ch c) = narrow (Z xs ws ch (dev (outAt ch c r))) := by
  induction r generalizing c with
  | zero => rw [Nat.add_zero, V_eight, prv_eq]
  | succ r ih =>
    rw [show 8 + (r + 1) = (8 + r) + 1 from rfl, V_ag xs ws ch _ _ (by omega), ih (by omega) (prv ch c),
      outAt_back ch c ⟨r, by omega⟩]

/-- So what is stored there is the block of the result. -/
theorem res_gather (ch : Fin 4) (c : Dev nD) (r : ℕ) (hr : r < 8) :
    blk (outAt ch c r) ch (res xs ws c) = wideV (V xs ws (8 + r) ch (prv ch c)) := by
  have h := outAt_ne ch c ⟨r, hr⟩
  rw [blk_res, V_gather xs ws ch r hr c, Nat.mod_eq_of_lt h.2, resBlk, if_neg h.1]

theorem res_own (ch : Fin 4) (c : Dev nD) : blk (pos c) ch (res xs ws c) = Z xs ws ch c := by
  rw [blk_res, Nat.mod_eq_of_lt (pos_lt c), resBlk, if_pos rfl]

/-- The blocks in `D` are the result's. -/
def Done (c : Dev nD) (D : List (ℕ × Fin 4)) (f : S2048x2048.Idx → Elt F .f32) : Prop :=
  ∀ p ∈ D, blk p.1 p.2 f = blk p.1 p.2 (res xs ws c)

theorem blk_side (k : ℕ) (ch : Fin 4) (f : S2048x2048.Idx → Elt F .f32) : blk k (cwOf ch) f = blk k ch f := by
  fin_cases ch <;> rfl

/-- A store of a block, element by element. -/
theorem put_cases (k : ℕ) (ch : Fin 4) (v : FVec F S128x1024 .f32) (f : S2048x2048.Idx → Elt F .f32)
    (i : S2048x2048.Idx) : (∃ j, (blkR k ch).emb j = i ∧ put k ch v f i = v j) ∨ put k ch v f i = f i := by
  rcases Classical.em (i ∈ (blkR k ch).set) with hm | hm
  · obtain ⟨j, hj⟩ := mem_blk k ch i hm
    have e := put_at k ch v f j
    rw [hj] at e
    exact .inl ⟨j, hj, e⟩
  · exact .inr (put_off k ch v f i hm)

attribute [local irreducible] put res

/-- One more block. -/
theorem done_put (c : Dev nD) (D : List (ℕ × Fin 4)) (f : S2048x2048.Idx → Elt F .f32) (k : ℕ) (ch : Fin 4)
    (v : FVec F S128x1024 .f32) (h : Done xs ws c D f) (hv : blk k ch (res xs ws c) = v) :
    Done xs ws c ((k, cwOf ch) :: D) (put k ch v f) := by
  intro p hp
  rcases List.mem_cons.mp hp with rfl | hp
  · show blk k (cwOf ch) (put k ch v f) = blk k (cwOf ch) (res xs ws c)
    rw [blk_side, blk_side, hv]
    funext j
    exact put_at k ch v f j
  · have e := h p hp
    have key : ∀ i, f i = res xs ws c i → put k ch v f i = res xs ws c i := by
      intro i hi
      rcases put_cases k ch v f i with ⟨j, hj, e₁⟩ | e₁
      · subst hj
        exact e₁.trans (congrFun hv j).symm
      · exact e₁.trans hi
    funext j
    exact key _ (congrFun e j)

/-- A block in the other half is as it was. -/
theorem blk_put_other (k : ℕ) (v : FVec F S128x1024 .f32) (f : S2048x2048.Idx → Elt F .f32) :
    blk k 1 (put k 0 v f) = blk k 1 f := by
  have key : ∀ i : S2048x2048.Idx, 1024 ≤ (i 1).val → put k 0 v f i = f i := by
    intro i hi
    rcases put_cases k 0 v f i with ⟨j, hj, -⟩ | e
    · have e := emb_col k 0 j
      rw [hj] at e
      have := wide_lt j
      have h0 : hc 0 = 0 := rfl
      omega
    · exact e
  funext j
  refine key _ ?_
  rw [emb_col]
  have h1 : hc 1 = 1024 := rfl
  omega

/-- The blocks of all-gather step `r`. -/
def rowD (c : Dev nD) (r : ℕ) (D : List (ℕ × Fin 4)) : List (ℕ × Fin 4) :=
  (outAt 3 c r, 1) :: (outAt 1 c r, 1) :: (outAt 2 c r, 0) :: (outAt 0 c r, 0) :: D

/-- All blocks, as they are stored. -/
def allD (c : Dev nD) : List (ℕ × Fin 4) :=
  (outAt 3 c 7, 1) :: (outAt 0 c 7, 0) :: rowD c 6 (rowD c 5 (rowD c 4 (rowD c 3 (rowD c 2 (rowD c 1 (rowD c 0
    [(pos c, 1), (pos c, 0)]))))))

theorem allD_all (c : Dev nD) (k : Fin 16) : (k.val, 0) ∈ allD c ∧ (k.val, 1) ∈ allD c := by
  revert c k; decide

/-- With all blocks done the buffer is the result. -/
theorem done_all (c : Dev nD) (f : S2048x2048.Idx → Elt F .f32) (h : Done xs ws c (allD c) f) : f = res xs ws c := by
  funext i
  have hp : place i < 16 := by have := place_lt i; unfold place; omega
  have hm : (place i, sideOf i) ∈ allD c := by
    unfold sideOf
    split
    · exact (allD_all c ⟨place i, hp⟩).1
    · exact (allD_all c ⟨place i, hp⟩).2
  have e := congrFun (h _ hm) (inBlk i)
  have e' : f ((blkR (place i) (sideOf i)).emb (inBlk i)) = res xs ws c ((blkR (place i) (sideOf i)).emb (inBlk i)) := e
  rwa [emb_inBlk] at e'

end Cert.KernelIdeal.Own
end
-- ==== Proof.Chain.lean ====
module

public import proofs.«01_k».proof.Proof.Steps
public import proofs.«01_k».proof.Proof.Result

/-!
# The steps of one chain

Each step of the body on one chain, from what the device holds of the chain before it to what it holds after.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Chains
variable (xs : Dev nD → Vec F S2048x128 .bf16) (ws : Dev nD → Vec F S128x2048 .bf16)

/-- What was received before transfer `u` left: up to transfer `8` nothing of it is lent; afterwards the slot
before is, half of it. -/
def Back (ch : Fin 4) (c : Dev nD) (u : ℕ) : sProp 𝕄 :=
  if u ≤ 8 then Kept ch c u
  else iprop((∃ v, SB ch c v) ∗ Kept ch c (u - 1) ∗ Sl ch (u - 1) fullShare.left c (V xs ws (u - 1) ch (prv ch c)))

/-- Transfer `u` is on its way and everything before it is received. -/
def St (ch : Fin 4) (c : Dev nD) (u : ℕ) : sProp 𝕄 :=
  iprop(Left ch c (u + 1) ∗ Await ch c u ∗ Shut ch c u ∗ Fly ch c u ∗ Back xs ws ch c u)

/-- Transfer `u` has left and has come, and nothing is on its way. -/
def Mid (ch : Fin 4) (c : Dev nD) (u : ℕ) : sProp 𝕄 :=
  iprop(Left ch c (u + 1) ∗ Await ch c (u + 1) ∗ Shut ch c (u + 1) ∗ Turn ch c (u + 1) ∗ (∃ v, SB ch c v)
    ∗ Kept ch c u ∗ Sl ch u fullShare c (V xs ws u ch (prv ch c)))

/-- Nothing has been done yet. -/
def Init (ch : Fin 4) (c : Dev nD) : sProp 𝕄 :=
  iprop(Left ch c (lo ch) ∗ Await ch c (lo ch) ∗ Turn ch c (lo ch) ∗ ∃ v, SB ch c v)

/-- All is done: the cells are closed and the memory is the device's own. -/
def End (ch : Fin 4) (c : Dev nD) : sProp 𝕄 :=
  iprop(Shut ch c (hi ch) ∗ Kept ch c (hi ch) ∗ (∃ v, SB ch c v) ∗ semVal (sendCell ch c) 0)

/-- What is held lends the slot of transfer `u` to a load. -/
def Lends (ch : Fin 4) (c : Dev nD) (u : ℕ) (P : sProp 𝕄) : Prop :=
  P ⊢ iprop(∃ q, Sl ch u q c (V xs ws u ch (prv ch c)) ∗ (Sl ch u q c (V xs ws u ch (prv ch c)) -∗ P))

theorem lends_st (ch : Fin 4) (c : Dev nD) (u : ℕ) (h : 8 ≤ u) :
    Lends xs ws ch c u (St xs ws ch c (u + 1)) := by
  unfold Lends St Back
  rw [if_neg (by omega), Nat.add_sub_cancel]
  iintro ⟨Hl, Ha, Hs, Hf, Hb, Hk, Hsl⟩
  iexists fullShare.left
  isplitl [Hsl]; · iexact Hsl
  iintro Hsl
  isplitl [Hl]; · iexact Hl
  isplitl [Ha]; · iexact Ha
  isplitl [Hs]; · iexact Hs
  isplitl [Hf]; · iexact Hf
  isplitl [Hb]; · iexact Hb
  isplitl [Hk]; · iexact Hk
  iexact Hsl

theorem lends_mid (ch : Fin 4) (c : Dev nD) (u : ℕ) : Lends xs ws ch c u (Mid xs ws ch c u) := by
  unfold Lends Mid
  iintro ⟨Hl, Ha, Hs, Hf, Hb, Hk, Hsl⟩
  iexists fullShare
  isplitl [Hsl]; · iexact Hsl
  iintro Hsl
  isplitl [Hl]; · iexact Hl
  isplitl [Ha]; · iexact Ha
  isplitl [Hs]; · iexact Hs
  isplitl [Hf]; · iexact Hf
  isplitl [Hb]; · iexact Hb
  isplitl [Hk]; · iexact Hk
  iexact Hsl

/-- What the send gives back completes what is held. -/
theorem back_pay (ch : Fin 4) (c : Dev nD) (u : ℕ) (h : lo ch ≤ u) :
    iprop(Back xs ws ch c u ∗ sendPay xs ws ch u c) ⊢ iprop((∃ v, SB ch c v) ∗ Kept ch c u) := by
  unfold Back sendPay
  by_cases h8 : u ≤ 8
  · rw [if_pos h8, if_pos h8]
    iintro ⟨Hk, Hb⟩
    isplitl [Hb]; · iexact Hb
    iexact Hk
  · rw [if_neg h8, if_neg h8]
    have hk := kept_step (F := F) ch c (u - 1) (le_trans (lo_le ch) (by omega))
    rw [show u - 1 + 1 = u by omega] at hk
    rw [hk]
    iintro ⟨⟨Hb, Hk, Ha⟩, Hr⟩
    isplitl [Hb]; · iexact Hb
    isplitl [Ha Hr]
    · iexists _
      iapply (slot_join c ch (u - 1) _ _)
      isplitl [Ha]; · iexact Ha
      iexact Hr
    iexact Hk

/-- The slot just received, its contents forgotten. -/
theorem keep_one (ch : Fin 4) (c : Dev nD) (u : ℕ) (h : lo ch ≤ u) (v : FVec F S128x1024 .bf16) :
    iprop(Kept ch c u ∗ Sl ch u fullShare c v) ⊢ (Kept ch c (u + 1) : sProp 𝕄) := by
  rw [kept_step ch c u h]
  iintro ⟨Hk, Hs⟩
  isplitl [Hs]; · iexists _; iexact Hs
  iexact Hk

/-- After the last transfer the send cell closes. -/
theorem mid_end (ch : Fin 4) (c : Dev nD) (u : ℕ) (h : lo ch ≤ u) (h' : u + 1 = hi ch) :
    iprop(Recs xs ws ∗ Mid xs ws ch c u) ⊢ iprop(|={Set.univ}=> End ch c) := by
  unfold Mid Turn End
  rw [← h']
  iintro ⟨#HR, -, -, Hs, ⟨Ha, -⟩, Hb, Hk, Hsl⟩
  ihave Hi := (recs_send xs ws ch c) $$ HR
  icases Hi with ⟨%κ, #HI, -⟩
  imod (Rounds.cell_close ER (Rd xs ws) (Set.mem_univ κ) (fun h => h) (R := u + 1 - lo ch)
    (fun r hr => no_send xs ws c ch r (by omega))) $$ [Ha] with Hz
  · isplitr; · iexact HI
    iexact Ha
  imodintro
  isplitl [Hs]; · iexact Hs
  isplitl [Hk Hsl]
  · iapply (keep_one ch c u h _)
    isplitl [Hk]; · iexact Hk
    iexact Hsl
  isplitl [Hb]; · iexact Hb
  iexact Hz

variable (c : Dev nD) (Q : PUnit.{1} → sProp (MT nD τ sig Unit (Elt F) ℕ UU ℕ))

/-- Wait for a transfer to come and to have left. -/
theorem wp_land (ch : Fin 4) (u : ℕ) (h : lo ch ≤ u) (h' : u < hi ch) (nx : Fin 4 → ℕ)
    (hnx : ∀ ch, nx ch < hi ch → u < nx ch) (k : Pr F) :
    iprop(Recs xs ws ∗ St xs ws ch c u ∗ Owe c nx)
      ⊢ iprop(((Mid xs ws ch c u ∗ Owe c nx) -∗ WP c k Q) -∗ WP c (wRecv ch u (wSend ch u k)) Q) := by
  unfold St Mid
  iintro ⟨#HR, ⟨Hl, Ha, Hs, Hf, Hb⟩, HO⟩ Hk
  iapply (wp_wRecv xs ws c Q ch u h h' nx hnx _) $$ [Ha Hs HO]
  · isplitr; · iexact HR
    isplitl [Ha]; · iexact Ha
    isplitl [Hs]; · iexact Hs
    iexact HO
  iintro ⟨Ha, Hs, HO, Hsl⟩
  iapply (wp_wSend xs ws c Q ch u h h' nx k) $$ [Hf HO]
  · isplitr; · iexact HR
    isplitl [Hf]; · iexact Hf
    iexact HO
  iintro ⟨Ht, HO, Hp⟩
  ihave Hbk := (back_pay xs ws ch c u h) $$ [Hb Hp]
  · isplitl [Hb]; · iexact Hb
    iexact Hp
  icases Hbk with ⟨Hb, Hkept⟩
  iapply Hk
  isplitr [HO]
  · isplitl [Hl]; · iexact Hl
    isplitl [Ha]; · iexact Ha
    isplitl [Hs]; · iexact Hs
    isplitl [Ht]; · iexact Ht
    isplitl [Hb]; · iexact Hb
    isplitl [Hkept]; · iexact Hkept
    iexact Hsl
  iexact HO

/-- Fill the send buffer with the next block and start it. -/
theorem wp_next (ch : Fin 4) (u : ℕ) (h : lo ch ≤ u) (h8 : u ≤ 8) (nx nx' : Fin 4 → ℕ) (hnx : nx ch = u)
    (hnx' : Function.update nx ch (u + 1) = nx') (v : FVec F S128x1024 .bf16) (hv : V xs ws u ch c = v) (k : Pr F) :
    iprop(Recs xs ws ∗ Left ch c u ∗ Await ch c u ∗ Shut ch c u ∗ Turn ch c u ∗ (∃ v, SB ch c v) ∗ Kept ch c u ∗ Owe c nx)
      ⊢ iprop(((St xs ws ch c u ∗ Owe c nx') -∗ WP c k Q) -∗ WP c (fill ch v (start ch u c k)) Q) := by
  subst hv hnx'
  unfold St Back
  rw [if_pos h8]
  iintro ⟨#HR, Hl, Ha, Hs, Ht, Hb, Hkept, HO⟩ Hk
  iapply (wp_fill c Q ch _ _) $$ Hb
  iintro Hb
  iapply (wp_start_buf xs ws c Q ch u h h8 nx hnx k) $$ [Hl Ht HO Hb]
  · isplitr; · iexact HR
    isplitl [Hl]; · iexact Hl
    isplitl [Ht]; · iexact Ht
    isplitl [HO]; · iexact HO
    iexact Hb
  iintro ⟨Hl, Hf, HO⟩
  iapply Hk
  isplitr [HO]
  · isplitl [Hl]; · iexact Hl
    isplitl [Ha]; · iexact Ha
    isplitl [Hs]; · iexact Hs
    isplitl [Hf]; · iexact Hf
    iexact Hkept
  iexact HO

/-- A reduce-scatter step of a chain. -/
theorem wp_rsStep (ch : Fin 4) (r : Fin 7) (h : lo ch ≤ r.val) (nx nx' : Fin 4 → ℕ) (hnx : nx ch = r.val + 1)
    (hlow : ∀ ch, nx ch < hi ch → r.val < nx ch) (hnx' : Function.update nx ch (r.val + 2) = nx') (k : Pr F) :
    iprop(Recs xs ws ∗ St xs ws ch c r.val ∗ Owe c nx ∗ (((c : Thread nD τ).loc cc0_scratch0) ↦{fullShare} part xs ws c))
      ⊢ iprop(((St xs ws ch c (r.val + 1) ∗ Owe c nx' ∗ (((c : Thread nD τ).loc cc0_scratch0) ↦{fullShare} part xs ws c))
            -∗ WP c k Q) -∗ WP c (rsStep ch c r k) Q) := by
  have hr := r.isLt
  unfold rsStep
  rw [show 1 + r.val = r.val + 1 from Nat.add_comm _ _]
  iintro ⟨#HR, Hst, HO, Hp⟩ Hk
  iapply (wp_land xs ws c Q ch r.val h (by have : 15 ≤ hi ch := by (fin_cases ch <;> decide)
                                           omega) nx hlow _) $$ [Hst HO]
  · isplitr; · iexact HR
    isplitl [Hst]; · iexact Hst
    iexact HO
  unfold Mid
  iintro ⟨⟨Hl, Ha, Hs, Ht, Hb, Hkept, Hsl⟩, HO⟩
  iapply (wp_ldSlot c Q ch r.val fullShare _ _) $$ Hsl
  iintro %x %hx Hsl
  iapply (wp_ldRows c Q ch r _ _) $$ Hp
  iintro Hp
  ihave Hkept := (keep_one ch c r.val h _) $$ [Hkept Hsl]
  · isplitl [Hkept]; · iexact Hkept
    iexact Hsl
  iapply (wp_next xs ws c Q ch (r.val + 1) (by omega) (by omega) nx nx' hnx hnx' _
    (by rw [V_rs xs ws ch c r.val hr h, ← hx]; rfl) k) $$ [Hl Ha Hs Ht Hb Hkept HO]
  · isplitr; · iexact HR
    isplitl [Hl]; · iexact Hl
    isplitl [Ha]; · iexact Ha
    isplitl [Hs]; · iexact Hs
    isplitl [Ht]; · iexact Ht
    isplitl [Hb]; · iexact Hb
    isplitl [Hkept]; · iexact Hkept
    iexact HO
  iintro ⟨Hst, HO⟩
  iapply Hk
  isplitl [Hst]; · iexact Hst
  isplitl [HO]; · iexact HO
  iexact Hp

theorem shut_none (ch : Fin 4) (c : Dev nD) : (emp : sProp 𝕄) ⊢ Shut ch c (lo ch) := by
  unfold Shut
  rw [Finset.Ico_self, bigSep_empty]
  iintro -
  iempintro

theorem kept_none (ch : Fin 4) (c : Dev nD) : (emp : sProp 𝕄) ⊢ Kept ch c (lo ch) := by
  unfold Kept
  rw [Finset.Ico_self, bigSep_empty]
  iintro -
  iempintro

/-- The first transfer of a chain. -/
theorem wp_begin (ch : Fin 4) (u : ℕ) (h : lo ch = u) (nx nx' : Fin 4 → ℕ) (hnx : nx ch = u)
    (hnx' : Function.update nx ch (u + 1) = nx') (v : FVec F S128x1024 .bf16) (hv : V xs ws u ch c = v) (k : Pr F) :
    iprop(Recs xs ws ∗ Init ch c ∗ Owe c nx)
      ⊢ iprop(((St xs ws ch c u ∗ Owe c nx') -∗ WP c k Q) -∗ WP c (fill ch v (start ch u c k)) Q) := by
  subst h
  unfold Init
  iintro ⟨#HR, ⟨Hl, Ha, Ht, Hb⟩, HO⟩ Hk
  iapply (wp_next xs ws c Q ch (lo ch) le_rfl (le_trans (lo_le ch) (by decide)) nx nx' hnx hnx' v hv k) $$ [Hl Ha Ht Hb HO]
  · isplitr; · iexact HR
    isplitl [Hl]; · iexact Hl
    isplitl [Ha]; · iexact Ha
    isplitr
    · iapply (shut_none ch c)
      iempintro
    isplitl [Ht]; · iexact Ht
    isplitl [Hb]; · iexact Hb
    isplitr
    · iapply (kept_none ch c)
      iempintro
    iexact HO
  iexact Hk

/-- The first step of a chain that starts at step `1`. -/
theorem wp_rsFirst (ch : Fin 4) (h : lo ch = 1) (nx nx' : Fin 4 → ℕ) (hnx : nx ch = 1)
    (hnx' : Function.update nx ch 2 = nx') (k : Pr F) :
    iprop(Recs xs ws ∗ Init ch c ∗ Owe c nx ∗ (((c : Thread nD τ).loc cc0_scratch0) ↦{fullShare} part xs ws c))
      ⊢ iprop(((St xs ws ch c 1 ∗ Owe c nx' ∗ (((c : Thread nD τ).loc cc0_scratch0) ↦{fullShare} part xs ws c))
            -∗ WP c k Q) -∗ WP c (rsFirst ch c k) Q) := by
  unfold rsFirst
  iintro ⟨#HR, Hst, HO, Hp⟩ Hk
  iapply (wp_ldRows c Q ch 0 _ _) $$ Hp
  iintro Hp
  iapply (wp_begin xs ws c Q ch 1 h nx nx' hnx hnx' _ (by rw [V_first xs ws ch c h]; rfl) k) $$ [Hst HO]
  · isplitr; · iexact HR
    isplitl [Hst]; · iexact Hst
    iexact HO
  iintro ⟨Hst, HO⟩
  iapply Hk
  isplitl [Hst]; · iexact Hst
  isplitl [HO]; · iexact HO
  iexact Hp

/-- A step of the all-gather: what came is passed on. -/
theorem wp_agStep (ch : Fin 4) (r : Fin 7) (h' : 9 + r.val < hi ch) (nx nx' : Fin 4 → ℕ) (hnx : nx ch = 9 + r.val)
    (hlow : ∀ ch, nx ch < hi ch → 8 + r.val < nx ch) (hnx' : Function.update nx ch (9 + r.val + 1) = nx') (k : Pr F) :
    iprop(Recs xs ws ∗ St xs ws ch c (8 + r.val) ∗ Owe c nx)
      ⊢ iprop(((St xs ws ch c (8 + r.val + 1) ∗ Owe c nx') -∗ WP c k Q) -∗ WP c (agStep ch c r k) Q) := by
  subst hnx'
  unfold agStep
  have hb : Back xs ws ch c (8 + r.val + 1) = iprop((∃ v, SB ch c v) ∗ Kept ch c (8 + r.val)
      ∗ Sl ch (8 + r.val) fullShare.left c (V xs ws (8 + r.val) ch (prv ch c))) := by
    unfold Back
    rw [if_neg (by omega), Nat.add_sub_cancel]
  have hs := wp_start_slot xs ws c Q ch (9 + r.val) (by omega) h' nx hnx k
  rw [show 9 + r.val - 1 = 8 + r.val by omega] at hs
  iintro ⟨#HR, Hst, HO⟩ Hk
  iapply (wp_land xs ws c Q ch (8 + r.val) (le_trans (lo_le ch) (by omega)) (by omega) nx hlow _) $$ [Hst HO]
  · isplitr; · iexact HR
    isplitl [Hst]; · iexact Hst
    iexact HO
  unfold Mid St
  rw [hb, show 8 + r.val + 1 = 9 + r.val by omega]
  iintro ⟨⟨Hl, Ha, Hs, Ht, Hb, Hkept, Hsl⟩, HO⟩
  iapply hs $$ [Hl Ht HO Hsl]
  · isplitr; · iexact HR
    isplitl [Hl]; · iexact Hl
    isplitl [Ht]; · iexact Ht
    isplitl [HO]; · iexact HO
    iexact Hsl
  iintro ⟨Hl, Hf, HO, Hsl⟩
  iapply Hk
  isplitr [HO]
  · isplitl [Hl]; · iexact Hl
    isplitl [Ha]; · iexact Ha
    isplitl [Hs]; · iexact Hs
    isplitl [Hf]; · iexact Hf
    isplitl [Hb]; · iexact Hb
    isplitl [Hkept]; · iexact Hkept
    iexact Hsl
  iexact HO

/-! ## The result buffer -/

/-- The result buffer, with the blocks in `D` done. -/
def Out (D : List (ℕ × Fin 4)) : sProp 𝕄 :=
  iprop(∃ f, ⌜Done xs ws c D f⌝ ∗ (((c : Thread nD τ).loc cc0_stg2_0) ↦{fullShare} f))

/-- Store a block. -/
theorem wp_stDone (ch : Fin 4) (p : ℕ) (off : Fin 2 → ℕ) (h : ∀ a, off a + S128x1024.size a ≤ S2048x2048.size a)
    (hoff : off = ![128 * (p % 16), hc ch]) (v : FVec F S128x1024 .f32) (hv : blk p ch (res xs ws c) = v)
    (D : List (ℕ × Fin 4)) (k : Pr F) :
    Out xs ws c D ⊢ iprop((Out xs ws c ((p, cwOf ch) :: D) -∗ WP c k Q) -∗ WP c (stOut off h v k) Q) := by
  unfold Out
  iintro ⟨%f, %hf, H⟩ Hk
  iapply (wp_stOut c Q p ch off h hoff f v k) $$ H
  iintro H
  iapply Hk
  iexists _
  isplitr; · ipureintro; exact done_put xs ws c D f p ch v hf hv
  iexact H

/-- Store what all-gather step `r` brought, from whatever lends its slot. -/
theorem wp_agOut (ch : Fin 4) (r : Fin 7) (P : sProp 𝕄) (hP : Lends xs ws ch c (8 + r.val) P)
    (D : List (ℕ × Fin 4)) (k : Pr F) :
    iprop(P ∗ Out xs ws c D) ⊢ iprop(((P ∗ Out xs ws c ((outAt ch c r.val, cwOf ch) :: D)) -∗ WP c k Q)
      -∗ WP c (agOut ch c r k) Q) := by
  unfold agOut
  unfold Lends at hP
  iintro ⟨HP, Ho⟩ Hk
  ihave HP' := hP $$ HP
  icases HP' with ⟨%q, Hsl, HP⟩
  iapply (wp_ldSlot c Q ch (8 + r.val) q _ _) $$ Hsl
  iintro %x %hx Hsl
  iapply (wp_stDone xs ws c Q ch (outAt ch c r.val) (outOff ch c r) (outOff_inb ch c r)
    ((outOff_eq ch c r).trans (by rw [Nat.mod_eq_of_lt (outAt_ne ch c ⟨r.val, by have := r.isLt; omega⟩).2])) (wide x)
    (by rw [res_gather xs ws ch c r.val (by have := r.isLt; omega), ← hx]; rfl) D k) $$ Ho
  iintro Ho
  iapply Hk
  isplitl [Hsl HP]
  · iapply HP $$ Hsl
  iexact Ho

/-- The last transfer of a chain: it comes, is stored, and has left. -/
theorem wp_last (ch : Fin 4) (h' : hi ch = 16) (off : Fin 2 → ℕ) (h : ∀ a, off a + S128x1024.size a ≤ S2048x2048.size a)
    (hoff : off = ![128 * (outAt ch c 7 % 16), hc ch]) (nx : Fin 4 → ℕ) (hnx : ∀ ch, nx ch < hi ch → 15 < nx ch)
    (D : List (ℕ × Fin 4)) (k : Pr F) :
    iprop(Recs xs ws ∗ St xs ws ch c 15 ∗ Owe c nx ∗ Out xs ws c D)
      ⊢ iprop(((Mid xs ws ch c 15 ∗ Owe c nx ∗ Out xs ws c ((outAt ch c 7, cwOf ch) :: D)) -∗ WP c k Q)
          -∗ WP c (wRecv ch 15 (ldSlot ch 15 fun x => stOut off h (wide x) (wSend ch 15 k))) Q) := by
  have hlo : lo ch ≤ 15 := le_trans (lo_le ch) (by decide)
  have h15 : 15 < hi ch := by omega
  unfold St Mid
  iintro ⟨#HR, ⟨Hl, Ha, Hs, Hf, Hb⟩, HO, Ho⟩ Hk
  iapply (wp_wRecv xs ws c Q ch 15 hlo h15 nx hnx _) $$ [Ha Hs HO]
  · isplitr; · iexact HR
    isplitl [Ha]; · iexact Ha
    isplitl [Hs]; · iexact Hs
    iexact HO
  iintro ⟨Ha, Hs, HO, Hsl⟩
  iapply (wp_ldSlot c Q ch 15 fullShare _ _) $$ Hsl
  iintro %x %hx Hsl
  iapply (wp_stDone xs ws c Q ch (outAt ch c 7) off h hoff (wide x)
    (by rw [res_gather xs ws ch c 7 (by decide), show 8 + 7 = 15 from rfl, ← hx]; rfl) D _) $$ Ho
  iintro Ho
  iapply (wp_wSend xs ws c Q ch 15 hlo h15 nx k) $$ [Hf HO]
  · isplitr; · iexact HR
    isplitl [Hf]; · iexact Hf
    iexact HO
  iintro ⟨Ht, HO, Hp⟩
  ihave Hbk := (back_pay xs ws ch c 15 hlo) $$ [Hb Hp]
  · isplitl [Hb]; · iexact Hb
    iexact Hp
  icases Hbk with ⟨Hb, Hkept⟩
  iapply Hk
  isplitr [HO Ho]
  · isplitl [Hl]; · iexact Hl
    isplitl [Ha]; · iexact Ha
    isplitl [Hs]; · iexact Hs
    isplitl [Ht]; · iexact Ht
    isplitl [Hb]; · iexact Hb
    isplitl [Hkept]; · iexact Hkept
    iexact Hsl
  isplitl [HO]; · iexact HO
  iexact Ho

/-- The own block of a half is finished from the two chains of that half and starts on its way. -/
theorem wp_finish (a b : Fin 4) (ha : cwOf a = a) (hb : ccwOf a = b) (hab : a ≠ b) (hz : Z xs ws b c = Z xs ws a c)
    (off : Fin 2 → ℕ) (h : ∀ a, off a + S128x1024.size a ≤ S2048x2048.size a) (hoff : off = ![128 * (pos c % 16), hc a])
    (nx nx' : Fin 4 → ℕ) (hna : nx a = 8) (hnb : nx b = 8) (hlow : ∀ ch, nx ch < hi ch → 7 < nx ch)
    (hnx' : Function.update (Function.update nx a 9) b 9 = nx') (f : S2048x2048.Idx → Elt F .f32)
    (hf : blk (pos c) a f = blk (pos c) a (prod (xs c) (ws c))) (k : Pr F) :
    iprop(Recs xs ws ∗ St xs ws a c 7 ∗ St xs ws b c 7 ∗ Owe c nx ∗ (((c : Thread nD τ).loc cc0_stg2_0) ↦{fullShare} f))
      ⊢ iprop(((St xs ws a c 8 ∗ St xs ws b c 8 ∗ Owe c nx'
              ∗ (((c : Thread nD τ).loc cc0_stg2_0) ↦{fullShare} put (pos c) a (Z xs ws a c) f)) -∗ WP c k Q)
          -∗ WP c (finish a b c off h k) Q) := by
  have hla : lo a ≤ 7 := le_trans (lo_le a) (by decide)
  have hlb : lo b ≤ 7 := le_trans (lo_le b) (by decide)
  have hi7 : ∀ ch : Fin 4, 8 < hi ch := by decide
  unfold finish
  rw [St, St]
  iintro ⟨#HR, ⟨Hla, Haa, Hsa, Hfa, Hba⟩, ⟨Hlb, Hab, Hsb, Hfb, Hbb⟩, HO, Ho⟩ Hk
  iapply (wp_wRecv xs ws c Q a 7 hla (lt_trans (by decide) (hi7 a)) nx hlow _) $$ [Haa Hsa HO]
  · isplitr; · iexact HR
    isplitl [Haa]; · iexact Haa
    isplitl [Hsa]; · iexact Hsa
    iexact HO
  iintro ⟨Haa, Hsa, HO, Hsla⟩
  iapply (wp_wRecv xs ws c Q b 7 hlb (lt_trans (by decide) (hi7 b)) nx hlow _) $$ [Hab Hsb HO]
  · isplitr; · iexact HR
    isplitl [Hab]; · iexact Hab
    isplitl [Hsb]; · iexact Hsb
    iexact HO
  iintro ⟨Hab, Hsb, HO, Hslb⟩
  iapply (wp_ldBlk c Q (pos c) a off h hoff f _) $$ Ho
  iintro Ho
  iapply (wp_ldSlot c Q a 7 fullShare _ _) $$ Hsla
  iintro %x %hx Hsla
  iapply (wp_ldSlot c Q b 7 fullShare _ _) $$ Hslb
  iintro %y %hy Hslb
  have hZ : silu (total (blk (pos c) a f) x y) = Z xs ws a c := by
    rw [Z, ha, hb, hf, ← hx, ← hy]
    rfl
  rw [hZ]
  iapply (wp_stOut c Q (pos c) a off h hoff f _ _) $$ Ho
  iintro Ho
  iapply (wp_wSend xs ws c Q a 7 hla (lt_trans (by decide) (hi7 a)) nx _) $$ [Hfa HO]
  · isplitr; · iexact HR
    isplitl [Hfa]; · iexact Hfa
    iexact HO
  iintro ⟨Hta, HO, Hpa⟩
  ihave Hbk := (back_pay xs ws a c 7 hla) $$ [Hba Hpa]
  · isplitl [Hba]; · iexact Hba
    iexact Hpa
  icases Hbk with ⟨Hba, Hka⟩
  iapply (wp_wSend xs ws c Q b 7 hlb (lt_trans (by decide) (hi7 b)) nx _) $$ [Hfb HO]
  · isplitr; · iexact HR
    isplitl [Hfb]; · iexact Hfb
    iexact HO
  iintro ⟨Htb, HO, Hpb⟩
  ihave Hbk := (back_pay xs ws b c 7 hlb) $$ [Hbb Hpb]
  · isplitl [Hbb]; · iexact Hbb
    iexact Hpb
  icases Hbk with ⟨Hbb, Hkb⟩
  ihave Hka := (keep_one a c 7 hla _) $$ [Hka Hsla]
  · isplitl [Hka]; · iexact Hka
    iexact Hsla
  ihave Hkb := (keep_one b c 7 hlb _) $$ [Hkb Hslb]
  · isplitl [Hkb]; · iexact Hkb
    iexact Hslb
  iapply (wp_fill c Q a _ _) $$ Hba
  iintro Hba
  iapply (wp_fill c Q b _ _) $$ Hbb
  iintro Hbb
  iapply (wp_start_buf xs ws c Q a 8 (le_trans hla (by decide)) le_rfl nx hna _) $$ [Hla Hta HO Hba]
  · isplitr; · iexact HR
    isplitl [Hla]; · iexact Hla
    isplitl [Hta]; · iexact Hta
    isplitl [HO]; · iexact HO
    rw [V_eight]
    iexact Hba
  iintro ⟨Hla, Hfa, HO⟩
  iapply (wp_start_buf xs ws c Q b 8 (le_trans hlb (by decide)) le_rfl _
    ((Function.update_of_ne hab.symm _ _).trans hnb) _) $$ [Hlb Htb HO Hbb]
  · isplitr; · iexact HR
    isplitl [Hlb]; · iexact Hlb
    isplitl [Htb]; · iexact Htb
    isplitl [HO]; · iexact HO
    rw [V_eight, hz]
    iexact Hbb
  iintro ⟨Hlb, Hfb, HO⟩
  iapply Hk
  rw [hnx', St, St, Back, Back, if_pos le_rfl, if_pos le_rfl]
  isplitl [Hla Haa Hsa Hfa Hka]
  · isplitl [Hla]; · iexact Hla
    isplitl [Haa]; · iexact Haa
    isplitl [Hsa]; · iexact Hsa
    isplitl [Hfa]; · iexact Hfa
    iexact Hka
  isplitl [Hlb Hab Hsb Hfb Hkb]
  · isplitl [Hlb]; · iexact Hlb
    isplitl [Hab]; · iexact Hab
    isplitl [Hsb]; · iexact Hsb
    isplitl [Hfb]; · iexact Hfb
    iexact Hkb
  isplitl [HO]; · iexact HO
  iexact Ho

end Chains

end Cert.KernelIdeal.Own
end
-- ==== Proof.Body.lean ====
module

public import proofs.«01_k».proof.Proof.Chain

/-!
# The run of the body

The body of one device, symbolic in the device: from its share of the protocol to the finished result.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Run
variable (xs : Dev nD → Vec F S2048x128 .bf16) (ws : Dev nD → Vec F S128x2048 .bf16)

/-- The next transfers of the four chains. -/
def nx4 (a b c d : ℕ) : Fin 4 → ℕ := fun ch => match ch with | 0 => a | 1 => b | 2 => c | 3 => d

theorem nx4_0 (a b c d x : ℕ) : Function.update (nx4 a b c d) 0 x = nx4 x b c d := by
  funext ch; fin_cases ch <;> rfl
theorem nx4_1 (a b c d x : ℕ) : Function.update (nx4 a b c d) 1 x = nx4 a x c d := by
  funext ch; fin_cases ch <;> rfl
theorem nx4_2 (a b c d x : ℕ) : Function.update (nx4 a b c d) 2 x = nx4 a b x d := by
  funext ch; fin_cases ch <;> rfl
theorem nx4_3 (a b c d x : ℕ) : Function.update (nx4 a b c d) 3 x = nx4 a b c x := by
  funext ch; fin_cases ch <;> rfl

theorem lo_eq : lo = nx4 0 1 1 0 := by funext ch; fin_cases ch <;> rfl

/-- A bound that holds of all four. -/
theorem nx4_low (a b c d u : ℕ) (ha : u < a) (hb : u < b) (hc : u < c) (hd : u < d) (ch : Fin 4)
    (_ : nx4 a b c d ch < hi ch) : u < nx4 a b c d ch := by
  fin_cases ch
  · exact ha
  · exact hb
  · exact hc
  · exact hd

/-- Both duties of every transfer a device starts in a chain. -/
def Toks (ch : Fin 4) (c : Dev nD) : sProp 𝕄 :=
  bigSep (Finset.Ico (lo ch) (hi ch)) fun u =>
    iprop(dutyTok ER (sendCell ch c) (u - lo ch) true ∗ dutyTok ER (recvCell ch u (nxt ch c)) 0 true)

theorem left_intro (ch : Fin 4) (c : Dev nD) :
    iprop(Toks ch c ∗ lands ch (nxt ch c)) ⊢ (Left ch c (lo ch) : sProp 𝕄) := by
  have key : ∀ u, iprop((dutyTok ER (sendCell ch c) (u - lo ch) true ∗ dutyTok ER (recvCell ch u (nxt ch c)) 0 true)
      ∗ ∃ v, Sl ch u fullShare (nxt ch c) v) ⊢ (todo ch c u : sProp 𝕄) := by
    intro u
    unfold todo
    iintro ⟨⟨Ha, Hb⟩, Hc⟩
    isplitl [Ha]; · iexact Ha
    isplitl [Hb]; · iexact Hb
    iexact Hc
  unfold Toks lands Left
  exact (Entails.of_eq (bigSep_sep (Finset.Ico (lo ch) (hi ch)) (M := 𝕄) _ _).symm).trans (bigSep_mono fun u _ => key u)

/-- What a device holds of a chain before the barrier. -/
def Pre (ch : Fin 4) (c : Dev nD) : sProp 𝕄 :=
  iprop(Toks ch c ∗ Await ch c (lo ch) ∗ Turn ch c (lo ch) ∗ ∃ v, SB ch c v)

theorem init_intro (ch : Fin 4) (c : Dev nD) :
    iprop(Pre ch c ∗ lands ch (nxt ch c)) ⊢ (Init ch c : sProp 𝕄) := by
  unfold Pre Init
  iintro ⟨⟨Ht, Ha, Htu, Hb⟩, Hl⟩
  isplitl [Ht Hl]
  · iapply (left_intro ch c)
    isplitl [Ht]; · iexact Ht
    iexact Hl
  isplitl [Ha]; · iexact Ha
  isplitl [Htu]; · iexact Htu
  iexact Hb

/-- All four chains at transfer `u`. -/
def All (c : Dev nD) (u : ℕ) : sProp 𝕄 :=
  iprop(St xs ws 0 c u ∗ St xs ws 1 c u ∗ St xs ws 2 c u ∗ St xs ws 3 c u)

/-- The scratch buffer, with the device's product. -/
abbrev Part (c : Dev nD) : sProp 𝕄 := (((c : Thread nD τ).loc cc0_scratch0) ↦{fullShare} part xs ws c)

/-- What a device brings to the barrier. -/
def BarPre (c : Dev nD) : sProp 𝕄 :=
  iprop(dutyTok ER (barCell (nxt 2 c)) 0 false ∗ dutyTok ER (barCell (nxt 0 c)) 0 true
    ∗ cred (tallyAt (barCell c) () 2) ∗ atPos ER (barCell c) 0 ∅ 0)

variable (c : Dev nD) (Q : PUnit.{1} → sProp (MT nD τ sig Unit (Elt F) ℕ UU ℕ))

theorem nxt02 (c : Dev nD) : nxt 0 (nxt 2 c) = c ∧ nxt 1 (nxt 2 c) = c ∧ nxt 2 (nxt 0 c) = c ∧ nxt 3 (nxt 0 c) = c := by
  revert c; decide

theorem barPay_false (c : Dev nD) :
    (barPay c false : sProp 𝕄) = iprop(lands 0 (nxt 0 c) ∗ lands 1 (nxt 1 c)) := rfl

theorem barPay_true (c : Dev nD) :
    (barPay c true : sProp 𝕄) = iprop(lands 2 (nxt 2 c) ∗ lands 3 (nxt 3 c)) := rfl

/-- The barrier, to devices `l` and `r`. -/
def barrierTo (l r : Dev nD) (k : Pr F) : Pr F :=
  .op (.semSignal (Dev.tc l) bar 1) fun _ =>
    .op (.semSignal (Dev.tc r) bar 1) fun _ => .op (.semWait bar 2) fun _ => k

/-- The barrier trades a device's own slots for its neighbours'. -/
theorem wp_barrier (W : Waits sig Unit) (k : Pr F) :
    iprop(Recs xs ws ∗ BarPre c ∗ (lands 0 c ∗ lands 1 c ∗ lands 2 c ∗ lands 3 c) ∗ owes (c : Thread nD τ) (debt₀ c) W)
      ⊢ iprop(((semVal (barCell c) 0
              ∗ (lands 0 (nxt 0 c) ∗ lands 1 (nxt 1 c) ∗ lands 2 (nxt 2 c) ∗ lands 3 (nxt 3 c))
              ∗ Owe c lo) -∗ WP c k Q)
          -∗ WP c (barrier c k) Q) := by
  have eb : barrier c k = barrierTo (nxt 2 c) (nxt 0 c) k := by
    rw [← nbr_eq 2 c, ← nbr_eq 0 c]; rfl
  obtain ⟨e0, e1, e2, e3⟩ := nxt02 c
  rw [eb]
  unfold barrierTo BarPre Owe debt₀
  iintro ⟨#HR, ⟨Ht2, Ht0, Hc, Ha⟩, ⟨H0, H1, H2, H3⟩, HO⟩ Hk
  ihave Hi := (recs_bar xs ws (nxt 2 c)) $$ HR
  icases Hi with ⟨%κ₂, #HI₂, #Hr₂⟩
  ihave Hi := (recs_bar xs ws (nxt 0 c)) $$ HR
  icases Hi with ⟨%κ₀, #HI₀, #Hr₀⟩
  ihave Hi := (recs_bar xs ws c) $$ HR
  icases Hi with ⟨%κ, #HI, -⟩
  iapply (Rounds.wp_signal 𝒱₀ ER (Rd xs ws) (c : Thread nD τ) none (dst := (nxt 2 c : Thread nD τ)) (κ := κ₂) (d := false)
    (by rw [duties_bar]; exact Finset.mem_univ _) (amount_bar xs ws (nxt 2 c) false) () (debt₁ c) rfl) $$ [HO Ht2 H0 H1]
  · isplitr; · iexact HI₂
    isplitl [HO]; · iexact HO
    isplitl [Ht2]; · iexact Ht2
    isplitl [H0 H1]
    · rw [payload_bar, barPay_false, e0, e1]
      isplitl [H0]; · iexact H0
      iexact H1
    iexact Hr₂
  iintro HO
  unfold debt₁
  iapply (Rounds.wp_signal 𝒱₀ ER (Rd xs ws) (c : Thread nD τ) none (dst := (nxt 0 c : Thread nD τ)) (κ := κ₀) (d := true)
    (by rw [duties_bar]; exact Finset.mem_univ _) (amount_bar xs ws (nxt 0 c) true) () (debt c lo) rfl) $$ [HO Ht0 H2 H3]
  · isplitr; · iexact HI₀
    isplitl [HO]; · iexact HO
    isplitl [Ht0]; · iexact Ht0
    isplitl [H2 H3]
    · rw [payload_bar, barPay_true, e2, e3]
      isplitl [H2]; · iexact H2
      iexact H3
    iexact Hr₀
  iintro HO
  iapply (Rounds.wp_wait_rest_token 𝒱₀ ER (Rd xs ws) (c : Thread nD τ) none (κ := κ)
      (wpE_semWait_eq 𝒱₀ (c : Thread nD τ) none Set.univ) (Set.mem_univ _) () (O := debt c lo) (W := W) (R := 0) (m := 0) (T := ∅)
      (by rw [expect_bar])) $$ [Hc HO Ha]
  · isplitr; · iexact HI
    isplitl [Hc]; · iexact Hc
    isplitl [HO]; · iexact HO
    isplitr; · iapply (recs_wait_bar xs ws c lo) $$ HR
    iexact Ha
  iintro ⟨HO, Ha, -, Hp⟩
  ihave Hp := (Entails.of_eq (rest_bar xs ws c)) $$ Hp
  rw [barPay_false, barPay_true]
  icases Hp with ⟨⟨H0, H1⟩, H2, H3⟩
  imod (Rounds.cell_close ER (Rd xs ws) (Set.mem_univ κ) (fun h => h) (R := 0 + 1) (no_bar xs ws c)) $$ [Ha] with Hz
  · isplitr; · iexact HI
    iexact Ha
  iapply Hk
  isplitl [Hz]; · iexact Hz
  isplitl [H0 H1 H2 H3]
  · isplitl [H0]; · iexact H0
    isplitl [H1]; · iexact H1
    isplitl [H2]; · iexact H2
    iexact H3
  iexists _
  iexact HO

/-- The first two transfers. -/
theorem wp_first (k : Pr F) :
    iprop(Recs xs ws ∗ Init 0 c ∗ Init 3 c ∗ Owe c lo ∗ (((c : Thread nD τ).loc cc0_stg0_0) ↦{fullShare} xs c)
        ∗ (((c : Thread nD τ).loc cc0_stg1_0) ↦{fullShare} ws c))
      ⊢ iprop(((St xs ws 0 c 0 ∗ St xs ws 3 c 0 ∗ Owe c (nx4 1 1 1 1) ∗ (((c : Thread nD τ).loc cc0_stg0_0) ↦{fullShare} xs c)
          ∗ (((c : Thread nD τ).loc cc0_stg1_0) ↦{fullShare} ws c)) -∗ WP c k Q) -∗ WP c (first c k) Q) := by
  unfold first
  rw [lo_eq]
  iintro ⟨#HR, Hi0, Hi3, HO, Hx, Hw⟩ Hk
  iapply (wp_ldX c Q (xs c) _) $$ Hx
  iintro Hx
  iapply (wp_ldW c Q (ws c) _) $$ Hw
  iintro Hw
  iapply (wp_begin xs ws c Q 0 0 rfl _ _ rfl (nx4_0 0 1 1 0 1) _ (V_zero xs ws 0 c) _) $$ [Hi0 HO]
  · isplitr; · iexact HR
    isplitl [Hi0]; · iexact Hi0
    iexact HO
  iintro ⟨Hs0, HO⟩
  iapply (wp_begin xs ws c Q 3 0 rfl _ _ rfl (nx4_3 1 1 1 0 1) _ (V_zero xs ws 3 c) _) $$ [Hi3 HO]
  · isplitr; · iexact HR
    isplitl [Hi3]; · iexact Hi3
    iexact HO
  iintro ⟨Hs3, HO⟩
  iapply Hk
  isplitl [Hs0]; · iexact Hs0
  isplitl [Hs3]; · iexact Hs3
  isplitl [HO]; · iexact HO
  isplitl [Hx]; · iexact Hx
  iexact Hw

/-- A reduce-scatter step of all four chains. -/
theorem wp_rsRow (r : Fin 7) (h : 1 ≤ r.val) (k : Pr F) :
    iprop(Recs xs ws ∗ All xs ws c r.val ∗ Owe c (nx4 (r.val + 1) (r.val + 1) (r.val + 1) (r.val + 1)) ∗ Part xs ws c)
      ⊢ iprop(((All xs ws c (r.val + 1) ∗ Owe c (nx4 (r.val + 2) (r.val + 2) (r.val + 2) (r.val + 2)) ∗ Part xs ws c)
          -∗ WP c k Q) -∗ WP c (rsRow c r k) Q) := by
  unfold All rsRow
  iintro ⟨#HR, ⟨H0, H1, H2, H3⟩, HO, Hp⟩ Hk
  iapply (wp_rsStep xs ws c Q 0 r (le_trans (lo_le _) h) (nx4 (r.val + 1) (r.val + 1) (r.val + 1) (r.val + 1)) _ rfl
    (nx4_low _ _ _ _ _ (by omega) (by omega) (by omega) (by omega)) (nx4_0 _ _ _ _ _) _) $$ [H0 HO Hp]
  · isplitr; · iexact HR
    isplitl [H0]; · iexact H0
    isplitl [HO]; · iexact HO
    iexact Hp
  iintro ⟨H0, HO, Hp⟩
  iapply (wp_rsStep xs ws c Q 2 r (le_trans (lo_le _) h) (nx4 (r.val + 2) (r.val + 1) (r.val + 1) (r.val + 1)) _ rfl
    (nx4_low _ _ _ _ _ (by omega) (by omega) (by omega) (by omega)) (nx4_2 _ _ _ _ _) _) $$ [H2 HO Hp]
  · isplitr; · iexact HR
    isplitl [H2]; · iexact H2
    isplitl [HO]; · iexact HO
    iexact Hp
  iintro ⟨H2, HO, Hp⟩
  iapply (wp_rsStep xs ws c Q 1 r (le_trans (lo_le _) h) (nx4 (r.val + 2) (r.val + 1) (r.val + 2) (r.val + 1)) _ rfl
    (nx4_low _ _ _ _ _ (by omega) (by omega) (by omega) (by omega)) (nx4_1 _ _ _ _ _) _) $$ [H1 HO Hp]
  · isplitr; · iexact HR
    isplitl [H1]; · iexact H1
    isplitl [HO]; · iexact HO
    iexact Hp
  iintro ⟨H1, HO, Hp⟩
  iapply (wp_rsStep xs ws c Q 3 r (le_trans (lo_le _) h) (nx4 (r.val + 2) (r.val + 2) (r.val + 2) (r.val + 1)) _ rfl
    (nx4_low _ _ _ _ _ (by omega) (by omega) (by omega) (by omega)) (nx4_3 _ _ _ _ _) _) $$ [H3 HO Hp]
  · isplitr; · iexact HR
    isplitl [H3]; · iexact H3
    isplitl [HO]; · iexact HO
    iexact Hp
  iintro ⟨H3, HO, Hp⟩
  iapply Hk
  isplitl [H0 H1 H2 H3]
  · isplitl [H0]; · iexact H0
    isplitl [H1]; · iexact H1
    isplitl [H2]; · iexact H2
    iexact H3
  isplitl [HO]; · iexact HO
  iexact Hp

/-- The reduce-scatter. -/
theorem wp_reduce (k : Pr F) :
    iprop(Recs xs ws ∗ (St xs ws 0 c 0 ∗ Init 1 c ∗ Init 2 c ∗ St xs ws 3 c 0) ∗ Owe c (nx4 1 1 1 1) ∗ Part xs ws c)
      ⊢ iprop(((All xs ws c 7 ∗ Owe c (nx4 8 8 8 8) ∗ Part xs ws c) -∗ WP c k Q) -∗ WP c (reduce c k) Q) := by
  unfold reduce
  iintro ⟨#HR, ⟨H0, H1, H2, H3⟩, HO, Hp⟩ Hk
  iapply (wp_rsStep xs ws c Q 0 0 (by decide) (nx4 1 1 1 1) _ rfl
    (nx4_low _ _ _ _ _ (by decide) (by decide) (by decide) (by decide)) (nx4_0 _ _ _ _ _) _) $$ [H0 HO Hp]
  · isplitr; · iexact HR
    isplitl [H0]; · iexact H0
    isplitl [HO]; · iexact HO
    iexact Hp
  iintro ⟨H0, HO, Hp⟩
  iapply (wp_rsFirst xs ws c Q 2 rfl _ _ rfl (nx4_2 _ _ _ _ _) _) $$ [H2 HO Hp]
  · isplitr; · iexact HR
    isplitl [H2]; · iexact H2
    isplitl [HO]; · iexact HO
    iexact Hp
  iintro ⟨H2, HO, Hp⟩
  iapply (wp_rsFirst xs ws c Q 1 rfl _ _ rfl (nx4_1 _ _ _ _ _) _) $$ [H1 HO Hp]
  · isplitr; · iexact HR
    isplitl [H1]; · iexact H1
    isplitl [HO]; · iexact HO
    iexact Hp
  iintro ⟨H1, HO, Hp⟩
  iapply (wp_rsStep xs ws c Q 3 0 (by decide) (nx4 2 2 2 1) _ rfl
    (nx4_low _ _ _ _ _ (by decide) (by decide) (by decide) (by decide)) (nx4_3 _ _ _ _ _) _) $$ [H3 HO Hp]
  · isplitr; · iexact HR
    isplitl [H3]; · iexact H3
    isplitl [HO]; · iexact HO
    iexact Hp
  iintro ⟨H3, HO, Hp⟩
  iapply (wp_rsRow xs ws c Q 1 (by decide) _) $$ [H0 H1 H2 H3 HO Hp]
  · isplitr; · iexact HR
    isplitl [H0 H1 H2 H3]
    · unfold All
      isplitl [H0]; · iexact H0
      isplitl [H1]; · iexact H1
      isplitl [H2]; · iexact H2
      iexact H3
    isplitl [HO]; · iexact HO
    iexact Hp
  iintro ⟨H, HO, Hp⟩
  iapply (wp_rsRow xs ws c Q 2 (by decide) _) $$ [H HO Hp]
  · isplitr; · iexact HR
    isplitl [H]; · iexact H
    isplitl [HO]; · iexact HO
    iexact Hp
  iintro ⟨H, HO, Hp⟩
  iapply (wp_rsRow xs ws c Q 3 (by decide) _) $$ [H HO Hp]
  · isplitr; · iexact HR
    isplitl [H]; · iexact H
    isplitl [HO]; · iexact HO
    iexact Hp
  iintro ⟨H, HO, Hp⟩
  iapply (wp_rsRow xs ws c Q 4 (by decide) _) $$ [H HO Hp]
  · isplitr; · iexact HR
    isplitl [H]; · iexact H
    isplitl [HO]; · iexact HO
    iexact Hp
  iintro ⟨H, HO, Hp⟩
  iapply (wp_rsRow xs ws c Q 5 (by decide) _) $$ [H HO Hp]
  · isplitr; · iexact HR
    isplitl [H]; · iexact H
    isplitl [HO]; · iexact HO
    iexact Hp
  iintro ⟨H, HO, Hp⟩
  iapply (wp_rsRow xs ws c Q 6 (by decide) _) $$ [H HO Hp]
  · isplitr; · iexact HR
    isplitl [H]; · iexact H
    isplitl [HO]; · iexact HO
    iexact Hp
  iexact Hk

/-- The four stores of an all-gather step. -/
theorem wp_agOuts (r : Fin 7) (P₀ P₁ P₂ P₃ : sProp 𝕄) (h₀ : Lends xs ws 0 c (8 + r.val) P₀)
    (h₁ : Lends xs ws 1 c (8 + r.val) P₁) (h₂ : Lends xs ws 2 c (8 + r.val) P₂) (h₃ : Lends xs ws 3 c (8 + r.val) P₃)
    (D : List (ℕ × Fin 4)) (k : Pr F) :
    iprop((P₀ ∗ P₁ ∗ P₂ ∗ P₃) ∗ Out xs ws c D)
      ⊢ iprop((((P₀ ∗ P₁ ∗ P₂ ∗ P₃) ∗ Out xs ws c (rowD c r.val D)) -∗ WP c k Q) -∗ WP c (agOuts c r k) Q) := by
  unfold agOuts rowD
  iintro ⟨⟨H0, H1, H2, H3⟩, Ho⟩ Hk
  iapply (wp_agOut xs ws c Q 0 r P₀ h₀ _ _) $$ [H0 Ho]
  · isplitl [H0]; · iexact H0
    iexact Ho
  iintro ⟨H0, Ho⟩
  iapply (wp_agOut xs ws c Q 2 r P₂ h₂ _ _) $$ [H2 Ho]
  · isplitl [H2]; · iexact H2
    iexact Ho
  iintro ⟨H2, Ho⟩
  iapply (wp_agOut xs ws c Q 1 r P₁ h₁ _ _) $$ [H1 Ho]
  · isplitl [H1]; · iexact H1
    iexact Ho
  iintro ⟨H1, Ho⟩
  iapply (wp_agOut xs ws c Q 3 r P₃ h₃ _ _) $$ [H3 Ho]
  · isplitl [H3]; · iexact H3
    iexact Ho
  iintro ⟨H3, Ho⟩
  iapply Hk
  isplitr [Ho]
  · isplitl [H0]; · iexact H0
    isplitl [H1]; · iexact H1
    isplitl [H2]; · iexact H2
    iexact H3
  iexact Ho

/-- An all-gather step of all four chains. -/
theorem wp_agRow (r : Fin 7) (h : r.val < 6) (D : List (ℕ × Fin 4)) (k : Pr F) :
    iprop(Recs xs ws ∗ All xs ws c (8 + r.val) ∗ Owe c (nx4 (9 + r.val) (9 + r.val) (9 + r.val) (9 + r.val)) ∗ Out xs ws c D)
      ⊢ iprop(((All xs ws c (8 + r.val + 1) ∗ Owe c (nx4 (9 + r.val + 1) (9 + r.val + 1) (9 + r.val + 1) (9 + r.val + 1))
          ∗ Out xs ws c (rowD c r.val D)) -∗ WP c k Q) -∗ WP c (agRow c r k) Q) := by
  have hh : ∀ ch : Fin 4, 9 + r.val < hi ch := fun ch => lt_of_lt_of_le (b := 15) (by omega) (by fin_cases ch <;> decide)
  unfold All agRow
  iintro ⟨#HR, ⟨H0, H1, H2, H3⟩, HO, Ho⟩ Hk
  iapply (wp_agStep xs ws c Q 0 r (hh _) (nx4 (9 + r.val) (9 + r.val) (9 + r.val) (9 + r.val)) _ rfl
    (nx4_low _ _ _ _ _ (by omega) (by omega) (by omega) (by omega)) (nx4_0 _ _ _ _ _) _) $$ [H0 HO]
  · isplitr; · iexact HR
    isplitl [H0]; · iexact H0
    iexact HO
  iintro ⟨H0, HO⟩
  iapply (wp_agStep xs ws c Q 2 r (hh _) (nx4 (9 + r.val + 1) (9 + r.val) (9 + r.val) (9 + r.val)) _ rfl
    (nx4_low _ _ _ _ _ (by omega) (by omega) (by omega) (by omega)) (nx4_2 _ _ _ _ _) _) $$ [H2 HO]
  · isplitr; · iexact HR
    isplitl [H2]; · iexact H2
    iexact HO
  iintro ⟨H2, HO⟩
  iapply (wp_agStep xs ws c Q 1 r (hh _) (nx4 (9 + r.val + 1) (9 + r.val) (9 + r.val + 1) (9 + r.val)) _ rfl
    (nx4_low _ _ _ _ _ (by omega) (by omega) (by omega) (by omega)) (nx4_1 _ _ _ _ _) _) $$ [H1 HO]
  · isplitr; · iexact HR
    isplitl [H1]; · iexact H1
    iexact HO
  iintro ⟨H1, HO⟩
  iapply (wp_agStep xs ws c Q 3 r (hh _) (nx4 (9 + r.val + 1) (9 + r.val + 1) (9 + r.val + 1) (9 + r.val)) _ rfl
    (nx4_low _ _ _ _ _ (by omega) (by omega) (by omega) (by omega)) (nx4_3 _ _ _ _ _) _) $$ [H3 HO]
  · isplitr; · iexact HR
    isplitl [H3]; · iexact H3
    iexact HO
  iintro ⟨H3, HO⟩
  iapply (wp_agOuts xs ws c Q r _ _ _ _ (lends_st xs ws 0 c _ (by omega)) (lends_st xs ws 1 c _ (by omega))
    (lends_st xs ws 2 c _ (by omega)) (lends_st xs ws 3 c _ (by omega)) D k) $$ [H0 H1 H2 H3 Ho]
  · isplitl [H0 H1 H2 H3]
    · isplitl [H0]; · iexact H0
      isplitl [H1]; · iexact H1
      isplitl [H2]; · iexact H2
      iexact H3
    iexact Ho
  iintro ⟨H, Ho⟩
  iapply Hk
  isplitl [H]; · iexact H
  isplitl [HO]; · iexact HO
  iexact Ho

/-- The two own blocks. -/
def own (c : Dev nD) : List (ℕ × Fin 4) := [(pos c, 1), (pos c, 0)]

/-- The own blocks in both halves are finished. -/
theorem wp_finishes (k : Pr F) :
    iprop(Recs xs ws ∗ All xs ws c 7 ∗ Owe c (nx4 8 8 8 8)
        ∗ (((c : Thread nD τ).loc cc0_stg2_0) ↦{fullShare} prod (xs c) (ws c)))
      ⊢ iprop(((All xs ws c 8 ∗ Owe c (nx4 9 9 9 9) ∗ Out xs ws c (own c)) -∗ WP c k Q)
          -∗ WP c (finish 0 2 c (k0_off6 c) (k0_off6_inb c) (finish 1 3 c (k0_off7 c) (k0_off7_inb c) k)) Q) := by
  have hm : pos c % 16 = pos c := Nat.mod_eq_of_lt (pos_lt c)
  unfold All
  iintro ⟨#HR, ⟨H0, H1, H2, H3⟩, HO, Ho⟩ Hk
  iapply (wp_finish xs ws c Q 0 2 rfl rfl (by decide) rfl (k0_off6 c) (k0_off6_inb c)
    ((off6_eq c).trans (by rw [hm]; rfl)) (nx4 8 8 8 8) (nx4 9 8 9 8) rfl rfl
    (nx4_low _ _ _ _ _ (by decide) (by decide) (by decide) (by decide)) (by rw [nx4_0, nx4_2]) _ rfl _) $$ [H0 H2 HO Ho]
  · isplitr; · iexact HR
    isplitl [H0]; · iexact H0
    isplitl [H2]; · iexact H2
    isplitl [HO]; · iexact HO
    iexact Ho
  iintro ⟨H0, H2, HO, Ho⟩
  iapply (wp_finish xs ws c Q 1 3 rfl rfl (by decide) rfl (k0_off7 c) (k0_off7_inb c)
    ((off7_eq c).trans (by rw [hm]; rfl)) (nx4 9 8 9 8) (nx4 9 9 9 9) rfl rfl
    (nx4_low _ _ _ _ _ (by decide) (by decide) (by decide) (by decide)) (by rw [nx4_1, nx4_3]) _
    (blk_put_other (pos c) _ _) _) $$ [H1 H3 HO Ho]
  · isplitr; · iexact HR
    isplitl [H1]; · iexact H1
    isplitl [H3]; · iexact H3
    isplitl [HO]; · iexact HO
    iexact Ho
  iintro ⟨H1, H3, HO, Ho⟩
  iapply Hk
  isplitl [H0 H1 H2 H3]
  · isplitl [H0]; · iexact H0
    isplitl [H1]; · iexact H1
    isplitl [H2]; · iexact H2
    iexact H3
  isplitl [HO]; · iexact HO
  unfold Out own
  iexists _
  isplitr
  · ipureintro
    exact done_put xs ws c _ _ (pos c) 1 _ (done_put xs ws c [] (prod (xs c) (ws c)) (pos c) 0 _
      (fun p hp => absurd hp (List.not_mem_nil)) (res_own xs ws 0 c)) (res_own xs ws 1 c)
  iexact Ho

/-- The all-gather. -/
theorem wp_gather (k : Pr F) :
    iprop(Recs xs ws ∗ All xs ws c 8 ∗ Owe c (nx4 9 9 9 9) ∗ Out xs ws c (own c))
      ⊢ iprop((((End 0 c ∗ End 1 c ∗ End 2 c ∗ End 3 c) ∗ Owe c (nx4 16 15 15 16) ∗ Out xs ws c (allD c)) -∗ WP c k Q)
          -∗ WP c (gather c k) Q) := by
  unfold gather ending
  iintro ⟨#HR, H, HO, Ho⟩ Hk
  iapply (wp_agRow xs ws c Q 0 (by decide) _ _) $$ [H HO Ho]
  · isplitr; · iexact HR
    isplitl [H]; · iexact H
    isplitl [HO]; · iexact HO
    iexact Ho
  iintro ⟨H, HO, Ho⟩
  iapply (wp_agRow xs ws c Q 1 (by decide) _ _) $$ [H HO Ho]
  · isplitr; · iexact HR
    isplitl [H]; · iexact H
    isplitl [HO]; · iexact HO
    iexact Ho
  iintro ⟨H, HO, Ho⟩
  iapply (wp_agRow xs ws c Q 2 (by decide) _ _) $$ [H HO Ho]
  · isplitr; · iexact HR
    isplitl [H]; · iexact H
    isplitl [HO]; · iexact HO
    iexact Ho
  iintro ⟨H, HO, Ho⟩
  iapply (wp_agRow xs ws c Q 3 (by decide) _ _) $$ [H HO Ho]
  · isplitr; · iexact HR
    isplitl [H]; · iexact H
    isplitl [HO]; · iexact HO
    iexact Ho
  iintro ⟨H, HO, Ho⟩
  iapply (wp_agRow xs ws c Q 4 (by decide) _ _) $$ [H HO Ho]
  · isplitr; · iexact HR
    isplitl [H]; · iexact H
    isplitl [HO]; · iexact HO
    iexact Ho
  iintro ⟨H, HO, Ho⟩
  iapply (wp_agRow xs ws c Q 5 (by decide) _ _) $$ [H HO Ho]
  · isplitr; · iexact HR
    isplitl [H]; · iexact H
    isplitl [HO]; · iexact HO
    iexact Ho
  iintro ⟨H, HO, Ho⟩
  unfold All
  icases H with ⟨H0, H1, H2, H3⟩
  iapply (wp_agStep xs ws c Q 0 6 (by decide) (nx4 15 15 15 15) _ rfl
    (nx4_low _ _ _ _ _ (by decide) (by decide) (by decide) (by decide)) (nx4_0 _ _ _ _ _) _) $$ [H0 HO]
  · isplitr; · iexact HR
    isplitl [H0]; · iexact H0
    iexact HO
  iintro ⟨H0, HO⟩
  unfold agLast
  iapply (wp_land xs ws c Q 2 14 (by decide) (by decide) (nx4 16 15 15 15)
    (nx4_low _ _ _ _ _ (by decide) (by decide) (by decide) (by decide)) _) $$ [H2 HO]
  · isplitr; · iexact HR
    isplitl [H2]; · iexact H2
    iexact HO
  iintro ⟨H2, HO⟩
  iapply (wp_land xs ws c Q 1 14 (by decide) (by decide) (nx4 16 15 15 15)
    (nx4_low _ _ _ _ _ (by decide) (by decide) (by decide) (by decide)) _) $$ [H1 HO]
  · isplitr; · iexact HR
    isplitl [H1]; · iexact H1
    iexact HO
  iintro ⟨H1, HO⟩
  iapply (wp_agStep xs ws c Q 3 6 (by decide) (nx4 16 15 15 15) _ rfl
    (nx4_low _ _ _ _ _ (by decide) (by decide) (by decide) (by decide)) (nx4_3 _ _ _ _ _) _) $$ [H3 HO]
  · isplitr; · iexact HR
    isplitl [H3]; · iexact H3
    iexact HO
  iintro ⟨H3, HO⟩
  iapply (wp_agOuts xs ws c Q 6 _ _ _ _ (lends_st xs ws 0 c 14 (by decide)) (lends_mid xs ws 1 c 14)
    (lends_mid xs ws 2 c 14) (lends_st xs ws 3 c 14 (by decide)) _ _) $$ [H0 H1 H2 H3 Ho]
  · isplitl [H0 H1 H2 H3]
    · isplitl [H0]; · iexact H0
      isplitl [H1]; · iexact H1
      isplitl [H2]; · iexact H2
      iexact H3
    iexact Ho
  iintro ⟨⟨H0, H1, H2, H3⟩, Ho⟩
  have hl : ∀ ch : Fin 4, nx4 16 15 15 16 ch < hi ch → 15 < nx4 16 15 15 16 ch := by
    intro ch h
    fin_cases ch <;> exact absurd h (by decide)
  have e0 : (![128 * ((pos c + 8) % 16), 0] : Fin 2 → ℕ) = ![128 * (outAt 0 c 7 % 16), hc 0] := by
    revert c; decide
  have e3 : (![128 * ((pos c + 8) % 16), 1024] : Fin 2 → ℕ) = ![128 * (outAt 3 c 7 % 16), hc 3] := by
    revert c; decide
  iapply (wp_last xs ws c Q 0 rfl _ _ ((off8_last c).trans e0) _ hl _ _) $$ [H0 HO Ho]
  · isplitr; · iexact HR
    isplitl [H0]; · iexact H0
    isplitl [HO]; · iexact HO
    iexact Ho
  iintro ⟨H0, HO, Ho⟩
  iapply (wp_last xs ws c Q 3 rfl _ _ ((off10_last c).trans e3) _ hl _ _) $$ [H3 HO Ho]
  · isplitr; · iexact HR
    isplitl [H3]; · iexact H3
    isplitl [HO]; · iexact HO
    iexact Ho
  iintro ⟨H3, HO, Ho⟩
  imod (mid_end xs ws 0 c 15 (by decide) rfl) $$ [H0] with H0
  · isplitr; · iexact HR
    iexact H0
  imod (mid_end xs ws 1 c 14 (by decide) rfl) $$ [H1] with H1
  · isplitr; · iexact HR
    iexact H1
  imod (mid_end xs ws 2 c 14 (by decide) rfl) $$ [H2] with H2
  · isplitr; · iexact HR
    iexact H2
  imod (mid_end xs ws 3 c 15 (by decide) rfl) $$ [H3] with H3
  · isplitr; · iexact HR
    iexact H3
  iapply Hk
  isplitl [H0 H1 H2 H3]
  · isplitl [H0]; · iexact H0
    isplitl [H1]; · iexact H1
    isplitl [H2]; · iexact H2
    iexact H3
  isplitl [HO]; · iexact HO
  unfold allD own
  iexact Ho

/-- The whole body from the device number on. -/
theorem wp_rest (W : Waits sig Unit) :
    iprop(Recs xs ws ∗ BarPre c ∗ (lands 0 c ∗ lands 1 c ∗ lands 2 c ∗ lands 3 c) ∗ (Pre 0 c ∗ Pre 1 c ∗ Pre 2 c ∗ Pre 3 c)
        ∗ owes (c : Thread nD τ) (debt₀ c) W
        ∗ (((c : Thread nD τ).loc cc0_stg0_0) ↦{fullShare} xs c) ∗ (((c : Thread nD τ).loc cc0_stg1_0) ↦{fullShare} ws c)
        ∗ (∃ f : S2048x2048.Idx → Elt F .f32, ((c : Thread nD τ).loc cc0_stg2_0) ↦{fullShare} f)
        ∗ (∃ f : S2048x2048.Idx → Elt F .bf16, ((c : Thread nD τ).loc cc0_scratch0) ↦{fullShare} f))
      ⊢ iprop(((semVal (barCell c) 0 ∗ (End 0 c ∗ End 1 c ∗ End 2 c ∗ End 3 c) ∗ (∃ W, owes (c : Thread nD τ) 0 W)
            ∗ (((c : Thread nD τ).loc cc0_stg0_0) ↦{fullShare} xs c) ∗ (((c : Thread nD τ).loc cc0_stg1_0) ↦{fullShare} ws c)
            ∗ (((c : Thread nD τ).loc cc0_stg2_0) ↦{fullShare} res xs ws c)
            ∗ (((c : Thread nD τ).loc cc0_scratch0) ↦{fullShare} part xs ws c)) -∗ Q ⟨⟩)
          -∗ WP c (rest c) Q) := by
  unfold rest
  iintro ⟨#HR, Hbp, Hl, ⟨Hp0, Hp1, Hp2, Hp3⟩, HO, Hx, Hw, Ho, Hp⟩ Hk
  iapply (wp_barrier xs ws c Q W _) $$ [Hbp Hl HO]
  · isplitr; · iexact HR
    isplitl [Hbp]; · iexact Hbp
    isplitl [Hl]; · iexact Hl
    iexact HO
  iintro ⟨Hz, ⟨Hl0, Hl1, Hl2, Hl3⟩, HO⟩
  ihave H0 := (init_intro 0 c) $$ [Hp0 Hl0]
  · isplitl [Hp0]; · iexact Hp0
    iexact Hl0
  ihave H1 := (init_intro 1 c) $$ [Hp1 Hl1]
  · isplitl [Hp1]; · iexact Hp1
    iexact Hl1
  ihave H2 := (init_intro 2 c) $$ [Hp2 Hl2]
  · isplitl [Hp2]; · iexact Hp2
    iexact Hl2
  ihave H3 := (init_intro 3 c) $$ [Hp3 Hl3]
  · isplitl [Hp3]; · iexact Hp3
    iexact Hl3
  iapply (wp_first xs ws c Q _) $$ [H0 H3 HO Hx Hw]
  · isplitr; · iexact HR
    isplitl [H0]; · iexact H0
    isplitl [H3]; · iexact H3
    isplitl [HO]; · iexact HO
    isplitl [Hx]; · iexact Hx
    iexact Hw
  iintro ⟨H0, H3, HO, Hx, Hw⟩
  iapply (wp_compute c Q (xs c) (ws c) _) $$ [Hx Hw Ho Hp]
  · isplitl [Hx]; · iexact Hx
    isplitl [Hw]; · iexact Hw
    isplitl [Ho]; · iexact Ho
    iexact Hp
  iintro ⟨Hx, Hw, Ho, Hp⟩
  iapply (wp_reduce xs ws c Q _) $$ [H0 H1 H2 H3 HO Hp]
  · isplitr; · iexact HR
    isplitl [H0 H1 H2 H3]
    · isplitl [H0]; · iexact H0
      isplitl [H1]; · iexact H1
      isplitl [H2]; · iexact H2
      iexact H3
    isplitl [HO]; · iexact HO
    iexact Hp
  iintro ⟨H, HO, Hp⟩
  iapply (wp_finishes xs ws c Q _) $$ [H HO Ho]
  · isplitr; · iexact HR
    isplitl [H]; · iexact H
    isplitl [HO]; · iexact HO
    iexact Ho
  iintro ⟨H, HO, Ho⟩
  iapply (wp_gather xs ws c Q _) $$ [H HO Ho]
  · isplitr; · iexact HR
    isplitl [H]; · iexact H
    isplitl [HO]; · iexact HO
    iexact Ho
  iintro ⟨He, HO, Ho⟩
  unfold Owe Out
  rw [debt_none c (nx4 16 15 15 16) (by decide)]
  icases Ho with ⟨%f, %hf, Ho⟩
  rw [done_all xs ws c f hf]
  unfold WP
  rw [wp_ret]
  imodintro
  iapply Hk
  isplitl [Hz]; · iexact Hz
  isplitl [He]; · iexact He
  isplitl [HO]; · iexact HO
  isplitl [Hx]; · iexact Hx
  isplitl [Hw]; · iexact Hw
  isplitl [Ho]; · iexact Ho
  iexact Hp

end Run

end Cert.KernelIdeal.Own
end
-- ==== Proof.Cells.lean ====
module

public import proofs.«01_k».proof.Proof.Body
public import Idealize.SL.ProofMode.BigOp

/-!
# The cells and the tokens of the ring

A device's semaphores by kind, and the tokens of the duties of its cells.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Families over sixteen -/

theorem univ_range (Φ : ℕ → sProp 𝕄) :
    bigSep Finset.univ (fun u : Fin 16 => Φ u.val) = bigSep (Finset.range 16) Φ := by
  rw [show Finset.range 16 = (Finset.univ : Finset (Fin 16)).map Fin.valEmbedding by decide, bigSep_map]; rfl

theorem span_sub (ch : Fin 4) : Finset.Ico (lo ch) (hi ch) ⊆ Finset.range 16 := fun u hu => by
  have := (Finset.mem_Ico.mp hu).2
  exact Finset.mem_range.mpr (lt_of_lt_of_le this (hi_le ch))

/-- Numbers below sixteen of which the chain has no transfer. -/
def gaps (ch : Fin 4) : Finset ℕ := Finset.range 16 \ Finset.Ico (lo ch) (hi ch)

theorem gaps_out (ch : Fin 4) {u : ℕ} (h : u ∈ gaps ch) : u < 16 ∧ (u < lo ch ∨ hi ch ≤ u) := by
  unfold gaps at h
  rw [Finset.mem_sdiff, Finset.mem_range, Finset.mem_Ico] at h
  omega

/-- A family over all numbers is that over the chain's transfers and that over the gaps. -/
theorem span_split (ch : Fin 4) (Φ : ℕ → sProp 𝕄) :
    bigSep Finset.univ (fun u : Fin 16 => Φ u.val)
      = iprop(bigSep (Finset.Ico (lo ch) (hi ch)) Φ ∗ bigSep (gaps ch) Φ) := by
  rw [univ_range]
  exact bigSep_sdiff_split (span_sub ch)

theorem span_left (ch : Fin 4) (Φ : ℕ → sProp 𝕄) :
    bigSep Finset.univ (fun u : Fin 16 => Φ u.val) ⊢ bigSep (Finset.Ico (lo ch) (hi ch)) Φ := by
  rw [univ_range]
  exact bigSep_subset (span_sub ch)

/-- A family over the chains, one by one. -/
theorem chains (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## A device's cells, kind by kind -/

theorem kR_injective : Function.Injective fun p : Fin 4 × Fin 16 => kR p.1 p.2.val := by
  intro p q h
  have e := ringOf_rsem p.1 p.2
  have e' := ringOf_rsem q.1 q.2
  have g := rsem_ge p.1 p.2
  have g' := rsem_ge q.1 q.2
  dsimp only at e e' g g'
  have hv : (rsem p.1 p.2.val).val - 2 = (rsem q.1 q.2.val).val - 2 := congrArg Fin.val h
  have : (rsem p.1 p.2.val).val = (rsem q.1 q.2.val).val := by omega
  rw [this, e'] at e
  have h1 := congrArg Prod.fst e
  have h2 := congrArg Prod.snd e
  exact Prod.ext h1.symm (Fin.ext h2.symm)

theorem kS_injective : Function.Injective kS := by decide

theorem numbers : (Finset.univ : Finset (Fin 69))
    = insert 0 (Finset.univ.image kS ∪ Finset.univ.image fun p : Fin 4 × Fin 16 => kR p.1 p.2.val) := by
  decide +kernel

/-- A family over a device's semaphores: its barrier's, its send and its receive semaphores'. -/
theorem kinds (Φ : SemLoc sig → sProp 𝕄) :
    bigSep Finset.univ (fun k : Fin 69 => Φ (csem k))
      = iprop(Φ (.reg bar) ∗ (bigSep Finset.univ fun ch : Fin 4 => Φ (.dma (ssem ch)))
          ∗ bigSep Finset.univ fun ch : Fin 4 => bigSep Finset.univ fun u : Fin 16 => Φ (.dma (rsem ch u.val))) := by
  rw [numbers, bigSep_insert (by decide +kernel), bigSep_union (by decide +kernel),
    bigSep_image_of_injOn kS_injective.injOn, bigSep_image_of_injOn kR_injective.injOn, bigSep_univ_prod, csem_bar]
  rw [bigSep_congr (s := Finset.univ) fun (ch : Fin 4) _ => congrArg Φ (csem_send ch),
    bigSep_congr (s := Finset.univ) fun (ch : Fin 4) _ => bigSep_congr (s := Finset.univ)
      fun (u : Fin 16) _ => congrArg Φ (csem_recv ch u.val u.isLt)]
  rfl

theorem csem_injective : Function.Injective csem := fun k k' h => by
  unfold csem at h
  split at h <;> split at h
  · exact Fin.ext (by omega)
  · cases h
  · cases h
  · have := congrArg (fun s : SemLoc sig => match s with | .reg _ => 0 | .dma s => s.val) h
    exact Fin.ext (by dsimp only at this; omega)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All cells of the ring. -/
def ringCells : Finset (GSem nD τ sig) := Finset.univ.map ⟨kcell, kcell_injective⟩

/-! ## The duties' tokens -/

/-- The tokens made for a device's cells: of receive cell `u` its one duty; of a send cell the duties of its
    first sixteen rounds; and of the barrier cell both duties of its first rounds. -/
def tokOf (x : Dev nD × Fin 3 × Fin 4 × Fin 16) : GSem nD τ sig × ℕ × Bool := match x.2.1 with
  | 0 => (recvCell x.2.2.1 x.2.2.2.val x.1, 0, true)
  | 1 => (sendCell x.2.2.1 x.1, (x.2.2.2.val + 16 - lo x.2.2.1) % 16, true)
  | 2 => (barCell x.1, 2 * x.2.2.2.val + x.2.2.1.val / 2, decide (x.2.2.1.val % 2 = 1))

/-- Which of them a token is. -/
def tokAt (g : GSem nD τ sig × ℕ × Bool) : Dev nD × ℕ × ℕ × ℕ := match g.1.2 with
  | .reg _ => (g.1.1.1, 2, 2 * (g.2.1 % 2) + (bif g.2.2 then 1 else 0), g.2.1 / 2)
  | .dma s => if 7 ≤ s.val then (g.1.1.1, 0, (ringOf s.val).1.val, (ringOf s.val).2)
      else (g.1.1.1, 1, (ringOf s.val).1.val, (g.2.1 + lo (ringOf s.val).1) % 16)

theorem tokAt_tokOf (x : Dev nD × Fin 3 × Fin 4 × Fin 16) :
    tokAt (tokOf x) = (x.1, x.2.1.val, x.2.2.1.val, x.2.2.2.val) := by
  obtain ⟨c, k, ch, u⟩ := x
  fin_cases k
  · have e := ringOf_rsem ch u
    have g := rsem_ge ch u
    dsimp only at e g
    show (if 7 ≤ (rsem ch u.val).val then (c, 0, (ringOf (rsem ch u.val).val).1.val, (ringOf (rsem ch u.val).val).2) else _)
      = (c, 0, ch.val, u.val)
    rw [if_pos g, e]
  · have g := ssem_lt ch
    have l := lo_le ch
    show (if 7 ≤ (ssem ch).val then _ else (c, 1, (ringOf (ssem ch).val).1.val,
      ((u.val + 16 - lo ch) % 16 + lo (ringOf (ssem ch).val).1) % 16)) = (c, 1, ch.val, u.val)
    rw [if_neg (by omega), ringOf_ssem]
    have : ((u.val + 16 - lo ch) % 16 + lo ch) % 16 = u.val := by
      have := u.isLt; omega
    dsimp only
    rw [this]
  · have : ∀ ch : Fin 4, 2 * ((2 * u.val + ch.val / 2) % 2) + (bif decide (ch.val % 2 = 1) then 1 else 0) = ch.val := by
      intro ch
      have e : (2 * u.val + ch.val / 2) % 2 = ch.val / 2 := by have := ch.isLt; omega
      rw [e]; clear e; revert ch; clear * -; decide
    have e : (2 * u.val + ch.val / 2) / 2 = u.val := by have := ch.isLt; omega
    show (c, 2, 2 * ((2 * u.val + ch.val / 2) % 2) + (bif decide (ch.val % 2 = 1) then 1 else 0),
      (2 * u.val + ch.val / 2) / 2) = (c, 2, ch.val, u.val)
    rw [this, e]

theorem tokOf_injective : Function.Injective tokOf := by
  rintro ⟨c, k, ch, u⟩ ⟨c', k', ch', u'⟩ h
  have e := (tokAt_tokOf _).symm.trans ((congrArg tokAt h).trans (tokAt_tokOf _))
  simp only [Prod.mk.injEq] at e
  obtain ⟨e1, e2, e3, e4⟩ := e
  rw [e1, Fin.ext e2, Fin.ext e3, Fin.ext e4]

def ringToks : Finset (GSem nD τ sig × ℕ × Bool) := Finset.univ.map ⟨tokOf, tokOf_injective⟩

/-- The tokens of a device's own cells that are used: of its receive cells, -/
def recvToks (ch : Fin 4) (c : Dev nD) : sProp 𝕄 :=
  bigSep (Finset.Ico (lo ch) (hi ch)) fun u => dutyTok ER (recvCell ch u c) 0 true

/-- of its send cells, -/
def sendToks (ch : Fin 4) (c : Dev nD) : sProp 𝕄 :=
  bigSep (Finset.Ico (lo ch) (hi ch)) fun u => dutyTok ER (sendCell ch c) (u - lo ch) true

/-- and of its barrier cell. -/
def toks (c : Dev nD) : sProp 𝕄 :=
  iprop((bigSep Finset.univ fun ch => recvToks ch c) ∗ (bigSep Finset.univ fun ch => sendToks ch c)
    ∗ dutyTok ER (barCell c) 0 false ∗ dutyTok ER (barCell c) 0 true)

theorem three (Φ : Fin 3 → sProp 𝕄) : bigSep Finset.univ Φ = iprop(Φ 0 ∗ Φ 1 ∗ Φ 2) :=
  bigSep_univ_eq_bigSepL [0, 1, 2] (by decide) (by decide) Φ

theorem send_round (ch : Fin 4) (c : Dev nD) :
    (bigSep Finset.univ fun u : Fin 16 => dutyTok ER (sendCell ch c) ((u.val + 16 - lo ch) % 16) true)
      ⊢ (sendToks ch c : sProp 𝕄) := by
  refine (span_left ch fun u => dutyTok ER (sendCell ch c) ((u + 16 - lo ch) % 16) true).trans ?_
  unfold sendToks
  refine Entails.of_eq (bigSep_congr fun u hu => ?_)
  have h := Finset.mem_Ico.mp hu
  have h' := hi_le ch
  rw [show (u + 16 - lo ch) % 16 = u - lo ch by omega]

theorem bar_round (c : Dev nD) :
    (bigSep Finset.univ fun x : Fin 4 × Fin 16 => dutyTok ER (barCell c) (2 * x.2.val + x.1.val / 2) (decide (x.1.val % 2 = 1)))
      ⊢ (iprop(dutyTok ER (barCell c) 0 false ∗ dutyTok ER (barCell c) 0 true) : sProp 𝕄) := by
  refine (bigSep_subset (t := {((0 : Fin 4), (0 : Fin 16)), (1, 0)}) (Finset.subset_univ _)).trans ?_
  rw [bigSep_insert (by decide), bigSep_singleton]
  exact BI.Entails.refl _

theorem toks_of (c : Dev nD) :
    (bigSep Finset.univ fun x : Fin 3 × Fin 4 × Fin 16 => dutyTok ER (tokOf (c, x)).1 (tokOf (c, x)).2.1 (tokOf (c, x)).2.2)
      ⊢ (toks c : sProp 𝕄) := by
  rw [bigSep_univ_prod, three]
  unfold toks
  show iprop((bigSep Finset.univ fun x : Fin 4 × Fin 16 => dutyTok ER (recvCell x.1 x.2.val c) 0 true)
      ∗ (bigSep Finset.univ fun x : Fin 4 × Fin 16 => dutyTok ER (sendCell x.1 c) ((x.2.val + 16 - lo x.1) % 16) true)
      ∗ bigSep Finset.univ fun x : Fin 4 × Fin 16 =>
          dutyTok ER (barCell c) (2 * x.2.val + x.1.val / 2) (decide (x.1.val % 2 = 1))) ⊢ _
  rw [bigSep_univ_prod, bigSep_univ_prod]
  exact BI.sep_mono (bigSep_mono fun ch _ => span_left ch fun u => dutyTok ER (recvCell ch u c) 0 true)
    (BI.sep_mono (bigSep_mono fun ch _ => send_round ch c) (bar_round c))

end Cert.KernelIdeal.Own
end
-- ==== Proof.Fund.lean ====
module

public import proofs.«01_k».proof.Proof.Cells

/-!
# The start of the ring

From the semaphores of all devices at zero: the cells of the ring, their tokens dealt to the devices that
pay the duties, and the credit of what all devices together owe each cell.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel's own semaphores, by number. -/
abbrev osem : Fin 68 → SemLoc sig := fun k => csem k.succ

/-- The ring's ghost state at the start, beside the pipeline's. -/
def u₀ : UU :=
  (initOf (Pipeline.cells cfgs cellOf_inj) (Pipeline.launchToks cfgs cellOf_inj), initOf ringCells ringToks)

section Protocol
variable (xs : Dev nD → Vec F S2048x128 .bf16) (ws : Dev nD → Vec F S128x2048 .bf16)

/-- What the start deals a device: the state of its cells, its positions, its cells' tokens. -/
def G (c : Dev nD) : sProp 𝕄 :=
  iprop((bigSep Finset.univ fun k : Fin 69 => roundState ER (Rd xs ws) (kcell (c, k)) 0)
    ∗ (bigSep Finset.univ fun k : Fin 69 => atPos ER (kcell (c, k)) 0 ∅ 0)
    ∗ (bigSep Finset.univ fun k : Fin 69 => reached ER (kcell (c, k)) 0) ∗ toks c)

theorem by_device (Φ : GSem nD τ sig → sProp 𝕄) :
    bigSep ringCells Φ = bigSep Finset.univ fun c : Dev nD => bigSep Finset.univ fun k : Fin 69 => Φ (kcell (c, k)) := by
  unfold ringCells; rw [bigSep_map, bigSep_univ_prod]; rfl

theorem toks_by_device : bigSep ringToks (fun x => (dutyTok ER x.1 x.2.1 x.2.2 : sProp 𝕄))
    ⊢ bigSep Finset.univ fun c : Dev nD => toks c := by
  unfold ringToks; rw [bigSep_map, bigSep_univ_prod]
  exact bigSep_mono fun c _ => toks_of c

theorem fund_ring : BI.own (ER (initOf ringCells ringToks)) ⊢ (|==> bigSep Finset.univ (G xs ws) : sProp 𝕄) := by
  iintro HX
  imod (Rounds.fund ER (Rd xs ws) ringCells ringToks) $$ HX with ⟨Hst, Hr, Hat, Htok⟩
  imodintro
  ihave Hst' := (Entails.of_eq (by_device fun g => roundState ER (Rd xs ws) g 0)) $$ Hst
  ihave Hat' := (Entails.of_eq (by_device fun g => atPos ER g 0 ∅ 0)) $$ Hat
  ihave Hr' := (Entails.of_eq (by_device fun g => reached ER g 0)) $$ Hr
  ihave Htok' := toks_by_device $$ Htok
  unfold G; simp only [bigSep_sep']
  isplitl [Hst']; · iexact Hst'
  isplitl [Hat']; · iexact Hat'
  isplitl [Hr']; · iexact Hr'
  iexact Htok'

theorem unscopedSems0_eq (c : Dev nD) : (unscopedSems0 c : sProp 𝕄) = semVal (barCell c) 0 := by
  unfold unscopedSems0; rw [bigSep_eq_bigSepL_of_eq [SemLoc.reg bar] (by decide +kernel) (by decide)]; rfl

theorem own_split (Φ : SemLoc sig → sProp 𝕄) : bigSep Finset.univ (fun k : Fin 69 => Φ (csem k))
    = iprop(Φ (.reg bar) ∗ bigSep Finset.univ fun k : Fin 68 => Φ (osem k)) := by
  rw [Fin.univ_succ, Finset.cons_eq_insert, bigSep_insert (by simp), bigSep_map, csem_bar]
  rfl

/-- The barrier's counter and the kernel's own are those of the ring's cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 69 => semVal (kcell (c, k)) 0 : sProp 𝕄) := by
  rw [unscopedSems0_eq]
  unfold Pipeline.ownSems0
  exact (own_split fun sm => semVal ((c : Thread nD τ), sm) 0).symm

theorem core_alloc (c : Dev nD) :
    iprop(Pipeline.ownSems0 (Ix := Unit) (Name := ℕ) (U := UU) (Lvl := ℕ) (Val := Elt F) (τ := τ) osem c ∗ unscopedSems0 c ∗ G xs ws c)
      ⊢ |={Set.univ}=> iprop((bigSep Finset.univ fun k : Fin 69 => iprop(∃ κ : ℕ, cellInv ER (Rd xs ws) κ (kcell (c, k))))
          ∗ (bigSep Finset.univ fun k : Fin 69 => atPos ER (kcell (c, k)) 0 ∅ 0)
          ∗ (bigSep Finset.univ fun k : Fin 69 => reached ER (kcell (c, k)) 0) ∗ toks c) := by
  unfold G
  iintro ⟨Hos, Hus, Hst, Hat⟩
  ihave Hv := (Entails.of_eq (sems_eq (F := F) c)) $$ [Hos Hus]
  · isplitl [Hus] <;> iassumption
  imod (show iprop((bigSep Finset.univ fun k : Fin 69 => semVal (kcell (c, k)) 0) ∗ bigSep Finset.univ fun k : Fin 69 => roundState ER (Rd xs ws) (kcell (c, k)) 0)
      ⊢ (|={Set.univ}=> bigSep Finset.univ fun k : Fin 69 => iprop(∃ κ : ℕ, cellInv ER (Rd xs ws) κ (kcell (c, k))) : sProp 𝕄) from by
        rw [← bigSep_sep']
        exact (bigSep_mono fun k _ => (Rounds.body_intro ER (Rd xs ws) (kcell (c, k))).trans inv_alloc).trans (bigSep_fupd _ _)) $$ [Hv Hst] with Hinv
  · isplitl [Hv] <;> iassumption
  imodintro
  isplitl [Hinv]; · iexact Hinv
  iexact Hat

/-- All cells run the protocol and have begun. -/
def Invs : sProp 𝕄 :=
  iprop(∃ K : Dev nD × Fin 69 → ℕ, bigSep Finset.univ fun ck : Dev nD × Fin 69 =>
      iprop(cellInv ER (Rd xs ws) (K ck) (kcell ck) ∗ reached ER (kcell ck) 0))

instance Invs_persistent : BI.Persistent (Invs xs ws) := by unfold Invs; infer_instance

end Protocol

/-- The tokens of the duties a device pays. -/
def pays (c : Dev nD) : sProp 𝕄 :=
  iprop((bigSep Finset.univ fun ch => recvToks ch (nxt ch c)) ∗ (bigSep Finset.univ fun ch => sendToks ch c)
    ∗ dutyTok ER (barCell (nxt 2 c)) 0 false ∗ dutyTok ER (barCell (nxt 0 c)) 0 true)

/-- The tokens dealt around the ring: each receive cell's to the neighbour sending to it, and the barrier's. -/
theorem deal : (bigSep Finset.univ fun c : Dev nD => (toks c : sProp 𝕄)) = bigSep Finset.univ fun c : Dev nD => pays c := by
  unfold toks pays
  simp only [bigSep_sep']
  congr 1
  · rw [bigSep_univ_comm, bigSep_univ_comm (Φ := fun (c : Dev nD) ch => (recvToks ch (nxt ch c) : sProp 𝕄))]
    exact bigSep_congr fun ch _ => bigSep_univ_equiv (turn ch) fun c : Dev nD => (recvToks ch c : sProp 𝕄)
  congr 1
  rw [bigSep_univ_equiv (turn 2) fun c : Dev nD => (dutyTok ER (barCell c) 0 false : sProp 𝕄),
    bigSep_univ_equiv (turn 0) fun c : Dev nD => (dutyTok ER (barCell c) 0 true : sProp 𝕄)]
  rfl

section Protocol
variable (xs : Dev nD → Vec F S2048x128 .bf16) (ws : Dev nD → Vec F S128x2048 .bf16)

/-- What a device starts with, apart from its memory, its credits and the levels. -/
def G' (c : Dev nD) : sProp 𝕄 :=
  iprop(Invs xs ws ∗ (bigSep Finset.univ fun k : Fin 69 => atPos ER (kcell (c, k)) 0 ∅ 0) ∗ pays c)

theorem regroup :
    (bigSep Finset.univ fun c : Dev nD => iprop((bigSep Finset.univ fun k : Fin 69 => iprop(∃ κ : ℕ, cellInv ER (Rd xs ws) κ (kcell (c, k))))
          ∗ (bigSep Finset.univ fun k : Fin 69 => atPos ER (kcell (c, k)) 0 ∅ 0)
          ∗ (bigSep Finset.univ fun k : Fin 69 => reached ER (kcell (c, k)) 0) ∗ toks c) : sProp 𝕄)
      ⊢ bigSep Finset.univ (G' xs ws) := by
  rw [bigSep_sep', bigSep_sep', bigSep_sep',
    ← bigSep_univ_prod (fun ck : Dev nD × Fin 69 => iprop(∃ κ : ℕ, cellInv ER (Rd xs ws) κ (kcell ck))),
    ← bigSep_univ_prod (fun ck : Dev nD × Fin 69 => (reached ER (kcell ck) 0 : sProp 𝕄)), deal]
  iintro ⟨HI, Hat, #HR, Htok⟩
  ihave HK := (BI.bigSep_exists_pi Finset.univ (fun (ck : Dev nD × Fin 69) (κ : ℕ) => (cellInv ER (Rd xs ws) κ (kcell ck) : sProp 𝕄))) $$ HI
  icases HK with ⟨%K, #HI⟩
  iapply (show iprop(Invs xs ws ∗ bigSep Finset.univ fun c : Dev nD =>
        iprop((bigSep Finset.univ fun k : Fin 69 => atPos ER (kcell (c, k)) 0 ∅ 0) ∗ pays c)) ⊢ bigSep Finset.univ (G' xs ws) from
      bigSep_with_persistent fun c _ => BI.Entails.refl _)
  isplitr
  · unfold Invs
    iexists K
    rw [bigSep_sep']
    isplitl; · iexact HI
    iexact HR
  · rw [bigSep_sep']
    isplitl [Hat]; · iexact Hat
    iexact Htok

/-- All devices' semaphores at once become the cells of the ring. -/
theorem glob : (bigSep Finset.univ fun c => iprop(Pipeline.ownSems0 (Ix := Unit) (Name := ℕ) (U := UU) (Lvl := ℕ) (Val := Elt F) (τ := τ) osem c ∗ unscopedSems0 c ∗ G xs ws c) : sProp 𝕄)
    ⊢ |={Set.univ}=> bigSep Finset.univ (G' xs ws) :=
  ((bigSep_mono fun c _ => core_alloc xs ws c).trans (bigSep_fupd _ _)).trans (BI.fupd_mono (regroup xs ws))

end Protocol

/-! ## The credits -/

theorem bar_eq_iff {a b : Dev nD} : Iff (barCell a = barCell b) (a = b) :=
  ⟨fun h => congrArg (fun g : GSem nD τ sig => g.1.1) h, fun h => h ▸ rfl⟩

theorem bar_ne_recv (a b : Dev nD) (ch : Fin 4) (u : ℕ) : barCell a ≠ recvCell ch u b := fun h => by
  have := congrArg Prod.snd h; cases this

theorem recv_eq_iff {ch ch' : Fin 4} {u u' : ℕ} (h : u < 16) (h' : u' < 16) {a b : Dev nD} :
    Iff (recvCell ch u a = recvCell ch' u' b) (ch = ch' ∧ u = u' ∧ a = b) := by
  constructor
  · intro he
    have e := kR_injective (a₁ := (ch, ⟨u, h⟩)) (a₂ := (ch', ⟨u', h'⟩)) (by
      apply csem_injective
      show csem (kR ch u) = csem (kR ch' u')
      rw [csem_recv ch u h, csem_recv ch' u' h']
      exact congrArg Prod.snd he)
    exact ⟨congrArg Prod.fst e, congrArg (fun p : Fin 4 × Fin 16 => p.2.val) e,
      congrArg (fun g : GSem nD τ sig => g.1.1) he⟩
  · rintro ⟨rfl, rfl, rfl⟩; rfl

theorem debt_bar (d c : Dev nD) (nx : Fin 4 → ℕ) : debt d nx (barCell c) () = 0 := by
  by_contra h
  obtain ⟨ch, u, -, -, e⟩ := debt_pos d nx (Nat.pos_of_ne_zero h)
  exact bar_ne_recv _ _ _ _ e

/-- What device `d` owes the barrier of device `c`. -/
theorem owed_bar (d c : Dev nD) : debt₀ d (barCell c) () = (if d = prv 0 c then 1 else 0) + (if d = prv 2 c then 1 else 0) := by
  have key : ∀ ch : Fin 4, (tallyAt (barCell (nxt ch d)) () 1 : CellTallies nD τ sig Unit) (barCell c) () = if d = prv ch c then 1 else 0 := by
    intro ch
    rw [tallyAt_apply]
    by_cases h : d = prv ch c
    · subst h; rw [nxt_prv, if_pos ⟨rfl, rfl⟩, if_pos rfl]
    · rw [if_neg (fun ⟨h1, _⟩ => h (by rw [← prv_nxt ch d]; exact congrArg (prv ch) (bar_eq_iff.mp h1).symm)), if_neg h]
  unfold debt₀ debt₁
  rw [Pi.add_apply, Finsupp.add_apply, Pi.add_apply, Finsupp.add_apply, debt_bar, key, key, Nat.zero_add]

/-- What it owes a receive cell of device `c`. -/
theorem owed_recv (ch : Fin 4) (u : ℕ) (h : lo ch ≤ u) (h' : u < hi ch) (d c : Dev nD) :
    debt₀ d (recvCell ch u c) () = if d = prv ch c then N else 0 := by
  unfold debt₀ debt₁ debt
  rw [Pi.add_apply, Finsupp.add_apply, Pi.add_apply, Finsupp.add_apply,
    tallyAt_ne_cell (fun h => bar_ne_recv _ _ _ _ h.symm), tallyAt_ne_cell (fun h => bar_ne_recv _ _ _ _ h.symm),
    Finsupp.zero_apply, Nat.add_zero, Nat.add_zero, Finset.sum_apply, Finsupp.finset_sum_apply]
  rw [Finset.sum_eq_single ch]
  · rw [Finset.sum_apply, Finsupp.finset_sum_apply, Finset.sum_eq_single u]
    · rw [tallyAt_apply]
      by_cases e : d = prv ch c
      · subst e; rw [nxt_prv, if_pos ⟨rfl, rfl⟩, if_pos rfl]
      · have h16 := lt_of_lt_of_le h' (hi_le ch)
        have hne : ∀ x : recvCell ch u (nxt ch d) = recvCell ch u c, False := fun h1 => e (by
          rw [← prv_nxt ch d]; exact congrArg (prv ch) ((recv_eq_iff h16 h16).mp h1).2.2)
        rw [if_neg (fun ⟨h1, _⟩ => hne h1.symm), if_neg e]
    · intro u' hu' hne
      have := (Finset.mem_Ico.mp hu').2
      rw [tallyAt_ne_cell (fun e => hne ((recv_eq_iff (lt_of_lt_of_le h' (hi_le ch)) (lt_of_lt_of_le this (hi_le ch))).mp e).2.1.symm)]
      rfl
    · intro hn; exact absurd (Finset.mem_Ico.mpr ⟨h, h'⟩) hn
  · intro ch' _ hne
    rw [Finset.sum_apply, Finsupp.finset_sum_apply]
    refine Finset.sum_eq_zero fun u' hu' => ?_
    have := (Finset.mem_Ico.mp hu').2
    rw [tallyAt_ne_cell (fun e => hne ((recv_eq_iff (lt_of_lt_of_le h' (hi_le ch)) (lt_of_lt_of_le this (hi_le ch'))).mp e).1.symm)]
    rfl
  · intro hn; exact absurd (Finset.mem_univ _) hn

theorem launch_bar (c : Dev nD) :
    tallyOn (barCell c) (launchCredit (Pipeline.owing debt₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv 0 c) fun _ => 1, Finset.sum_ite_eq' Finset.univ (prv 2 c) fun _ => 1, if_pos (Finset.mem_univ _), if_pos (Finset.mem_univ _)]

theorem launch_recv (ch : Fin 4) (u : ℕ) (h : lo ch ≤ u) (h' : u < hi ch) (c : Dev nD) :
    tallyOn (recvCell ch u c) (launchCredit (Pipeline.owing debt₀) 0 (recvCell ch u c)) = (tallyAt (recvCell ch u c) () N : CellTallies nD τ sig Unit) := by
  unfold tallyAt; refine congrArg _ (Finsupp.ext fun i => ?_); cases i
  rw [Pipeline.launchCredit_owing, Finsupp.single_eq_same, Finset.sum_congr rfl fun d _ => owed_recv ch u h h' d c,
    Finset.sum_ite_eq' Finset.univ (prv ch c) fun _ => N, if_pos (Finset.mem_univ _)]

/-- The credit of the barrier and of every landing. -/
theorem creds (c : Dev nD) :
    (Pipeline.launchCred debt₀ c : sProp 𝕄) ⊢ iprop(cred (tallyAt (barCell c) () 2)
      ∗ bigSep Finset.univ fun ch : Fin 4 => bigSep (Finset.Ico (lo ch) (hi ch)) fun u => cred (tallyAt (recvCell ch u c) () N)) := by
  unfold Pipeline.launchCred
  refine (bigSep_subset (t := Finset.univ.map ⟨csem, csem_injective⟩) (Finset.subset_univ _)).trans ?_
  rw [bigSep_map]
  refine (Entails.of_eq (kinds fun sm : SemLoc sig => cred (tallyOn ((c : Thread nD τ), sm)
    (launchCredit (Pipeline.owing debt₀) 0 ((c : Thread nD τ), sm))))).trans ?_
  rw [launch_bar]
  refine sep_mono_right (BI.sep_and.trans (and_elimR.trans (bigSep_mono fun ch _ => ?_)))
  refine (span_left ch fun u => cred (tallyOn (recvCell ch u c) (launchCredit (Pipeline.owing debt₀) 0 (recvCell ch u c)))).trans ?_
  refine Entails.of_eq (bigSep_congr fun u hu => ?_)
  rw [launch_recv ch u (Finset.mem_Ico.mp hu).1 (Finset.mem_Ico.mp hu).2]

end Cert.KernelIdeal.Own
end
-- ==== Proof.Buffers.lean ====
module

public import proofs.«01_k».proof.Proof.Cells

/-!
# The buffers of a device

The landing buffers as the slots of the four chains, and the send buffers as their halves.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A buffer in pieces -/

theorem eq_of {P Q : sProp 𝕄} (h : P ⊢ Q) (h' : Q ⊢ P) : P = Q := BI.equiv_iff.mp ⟨h, h'⟩

/-- A memref owned with any contents. -/
theorem any_owns {sp : Space} {sh : Shape} {e : EltTy} (m : Memref sig .tc sp sh e) (c : Dev nD) :
    (iprop(∃ v, owns (c : Thread nD τ) m fullShare v) : sProp 𝕄)
      = iprop(∃ f, m.view.loc (c : Thread nD τ) ↦[m.view.set]{fullShare} f) := by
  refine eq_of ?_ ?_
  · unfold owns
    iintro ⟨%v, %f, -, H⟩
    iexists f; iexact H
  · iintro ⟨%f, H⟩
    iexists _
    iapply (owns_intro (c : Thread nD τ) m fullShare f) $$ H

/-- A whole buffer of any contents is its pieces, each of any contents. -/
theorem pieces {sp : Space} {sh : Shape} {e : EltTy} (m : Memref sig .tc sp sh e) (hm : m.view.set = Finset.univ)
    (c : Dev nD) {T : Type} [Fintype T] [DecidableEq T] (r : T → Rect sh)
    (hd : ∀ t t', t ≠ t' → Disjoint (r t).set (r t').set)
    (hcov : ∀ i, ∃ t, i ∈ (r t).set) :
    (iprop(∃ f, m.view.loc (c : Thread nD τ) ↦{fullShare} f) : sProp 𝕄)
      = bigSep Finset.univ fun t => iprop(∃ f, m.view.loc (c : Thread nD τ) ↦[(m.view.slice (r t)).set]{fullShare} f) := by
  have hset : m.view.set = (Finset.univ : Finset T).biUnion fun t => (m.view.slice (r t)).set := by
    ext i; constructor
    · intro hi
      rw [View.set, Finset.mem_map] at hi
      obtain ⟨x, -, rfl⟩ := hi
      obtain ⟨t, hx⟩ := hcov x
      exact Finset.mem_biUnion.mpr ⟨t, Finset.mem_univ _, by rw [View.set_slice]; exact Finset.mem_map_of_mem _ hx⟩
    · intro hi
      obtain ⟨t, -, hi⟩ := Finset.mem_biUnion.mp hi
      exact View.set_slice_subset _ _ hi
  have hdv : ∀ t ∈ (Finset.univ : Finset T), ∀ t' ∈ (Finset.univ : Finset T), t ≠ t' →
      Disjoint (m.view.slice (r t)).set (m.view.slice (r t')).set := fun t _ t' _ htt => by
    rw [View.set_slice, View.set_slice]; exact (Finset.disjoint_map _).mpr (hd t t' htt)
  rw [← hm, hset]
  refine eq_of ?_ ?_
  · iintro ⟨%f, H⟩
    ihave H := (Entails.of_eq (pointsTo_biUnion _ _ hdv)) $$ H
    iapply (show (bigSep Finset.univ fun t => m.view.loc (c : Thread nD τ) ↦[(m.view.slice (r t)).set]{fullShare} f : sProp 𝕄) ⊢ _ from
      bigSep_mono fun t _ => show (m.view.loc (c : Thread nD τ) ↦[(m.view.slice (r t)).set]{fullShare} f : sProp 𝕄)
        ⊢ iprop(∃ f, m.view.loc (c : Thread nD τ) ↦[(m.view.slice (r t)).set]{fullShare} f) from by
          iintro H; iexists f; iexact H) $$ H
  · iintro H
    ihave H := (BI.bigSep_exists_pi Finset.univ (fun (t : T) f =>
      (m.view.loc (c : Thread nD τ) ↦[(m.view.slice (r t)).set]{fullShare} f : sProp 𝕄))) $$ H
    icases H with ⟨%fs, H⟩
    ihave H := (pointsTo_biUnion_join Finset.univ (fun t => (m.view.slice (r t)).set) fs (Classical.arbitrary _) hdv) $$ H
    icases H with ⟨%g, -, H⟩
    iexists g; iexact H

/-! ## The slots -/

theorem sl_inb (t : Fin 2 × Fin 8) :
    ∀ a, (![t.2.val, 0, 1024 * t.1.val] : Fin 3 → ℕ) a + S1x128x1024.size a ≤ S8x128x2048.size a := by
  obtain ⟨h, u⟩ := t
  have := h.isLt
  have := u.isLt
  intro a
  fin_cases a
  · show u.val + 1 ≤ 8; omega
  · exact (by decide : 0 + 128 ≤ 128)
  · show 1024 * h.val + 1024 ≤ 2048; omega

/-- The piece of a landing buffer by half and number. -/
abbrev slR (t : Fin 2 × Fin 8) : Rect S8x128x2048 :=
  Rect.unit (s := S8x128x2048) ![t.2.val, 0, 1024 * t.1.val] S1x128x1024.size (sl_inb t)

theorem slR_mem (t : Fin 2 × Fin 8) (i : S8x128x2048.Idx) :
    i ∈ (slR t).set ↔ (i 0).val = t.2.val ∧ (i 2).val / 1024 = t.1.val := by
  rw [Rect.mem_set_unit]
  have h1 : (i 1).val < 128 := (i 1).isLt
  constructor
  · intro h
    have h0 := h 0
    have h2 := h 2
    change t.2.val ≤ (i 0).val ∧ (i 0).val < t.2.val + 1 at h0
    change 1024 * t.1.val ≤ (i 2).val ∧ (i 2).val < 1024 * t.1.val + 1024 at h2
    omega
  · rintro ⟨h0, h2⟩ a
    fin_cases a
    · show t.2.val ≤ (i 0).val ∧ (i 0).val < t.2.val + 1
      omega
    · show 0 ≤ (i 1).val ∧ (i 1).val < 0 + 128
      omega
    · show 1024 * t.1.val ≤ (i 2).val ∧ (i 2).val < 1024 * t.1.val + 1024
      omega

theorem slR_disjoint (t t' : Fin 2 × Fin 8) (h : t ≠ t') : Disjoint (slR t).set (slR t').set := by
  rw [Finset.disjoint_left]
  intro i hi hi'
  rw [slR_mem] at hi hi'
  exact h (Prod.ext (Fin.ext (hi.2.symm.trans hi'.2)) (Fin.ext (hi.1.symm.trans hi'.1)))

theorem slR_cover (i : S8x128x2048.Idx) : ∃ t, i ∈ (slR t).set := by
  have h0 : (i 0).val < 8 := (i 0).isLt
  have h2 : (i 2).val < 2048 := (i 2).isLt
  exact ⟨(⟨(i 2).val / 1024, by omega⟩, ⟨(i 0).val, h0⟩), (slR_mem _ i).mpr ⟨rfl, rfl⟩⟩

abbrev sl (m : Memref sig .tc .vmem S8x128x2048 .bf16) (t : Fin 2 × Fin 8) : Memref sig .tc .vmem S128x1024 .bf16 :=
  (m.slice (slR t) (fun _ => rfl)).squeeze S128x1024 squeezes_S1x128x1024_S128x1024

theorem buffer_slots (m : Memref sig .tc .vmem S8x128x2048 .bf16) (hm : m.view.set = Finset.univ) (c : Dev nD) :
    (iprop(∃ f, m.view.loc (c : Thread nD τ) ↦{fullShare} f) : sProp 𝕄)
      = iprop((bigSep Finset.univ fun u : Fin 8 => iprop(∃ v, owns (c : Thread nD τ) (sl m (0, u)) fullShare v))
          ∗ bigSep Finset.univ fun u : Fin 8 => iprop(∃ v, owns (c : Thread nD τ) (sl m (1, u)) fullShare v)) := by
  rw [pieces m hm c slR slR_disjoint slR_cover, bigSep_univ_prod, bigSep_fin_two]
  have key : ∀ t, (iprop(∃ v, owns (c : Thread nD τ) (sl m t) fullShare v) : sProp 𝕄)
      = iprop(∃ f, m.view.loc (c : Thread nD τ) ↦[(m.view.slice (slR t)).set]{fullShare} f) := fun t => by
    rw [any_owns, show (sl m t).view.set = (m.view.slice (slR t)).set from View.set_reshape _ _]
  simp only [key]
  rfl

/-- Any contents of slot `u`. -/
abbrev Any (ch : Fin 4) (c : Dev nD) (u : ℕ) : sProp 𝕄 := iprop(∃ v, Sl ch u fullShare c v)

theorem slot_low (u : Fin 8) :
    slot 0 u.val = sl (Memref.whole cc0_scratch3) (0, u) ∧ slot 1 u.val = sl (Memref.whole cc0_scratch3) (1, u)
      ∧ slot 2 u.val = sl (Memref.whole cc0_scratch4) (0, u) ∧ slot 3 u.val = sl (Memref.whole cc0_scratch4) (1, u) := by
  fin_cases u <;> exact ⟨rfl, rfl, rfl, rfl⟩

theorem slot_high (u : Fin 8) :
    slot 0 (8 + u.val) = sl (Memref.whole cc0_scratch5) (0, u) ∧ slot 1 (8 + u.val) = sl (Memref.whole cc0_scratch5) (1, u)
      ∧ slot 2 (8 + u.val) = sl (Memref.whole cc0_scratch6) (0, u) ∧ slot 3 (8 + u.val) = sl (Memref.whole cc0_scratch6) (1, u) := by
  fin_cases u <;> exact ⟨rfl, rfl, rfl, rfl⟩

theorem two_halves (Φ : ℕ → sProp 𝕄) : bigSep Finset.univ (fun u : Fin 16 => Φ u.val)
    = iprop((bigSep Finset.univ fun u : Fin 8 => Φ u.val) ∗ bigSep Finset.univ fun u : Fin 8 => Φ (8 + u.val)) := by
  rw [bigSep_univ_equiv (finSumFinEquiv (m := 8) (n := 8)) fun u : Fin 16 => Φ u.val, bigSep_univ_sum]
  rfl

theorem shuffle (A0 A1 A2 A3 B0 B1 B2 B3 : sProp 𝕄) :
    iprop((A0 ∗ A1) ∗ (A2 ∗ A3) ∗ (B0 ∗ B1) ∗ (B2 ∗ B3)) = iprop((A0 ∗ B0) ∗ (A1 ∗ B1) ∗ (A2 ∗ B2) ∗ (A3 ∗ B3)) := by
  refine eq_of ?_ ?_
  · iintro ⟨⟨A0, A1⟩, ⟨A2, A3⟩, ⟨B0, B1⟩, B2, B3⟩
    isplitl [A0 B0]; · isplitl [A0] <;> iassumption
    isplitl [A1 B1]; · isplitl [A1] <;> iassumption
    isplitl [A2 B2]; · isplitl [A2] <;> iassumption
    isplitl [A3] <;> iassumption
  · iintro ⟨⟨A0, B0⟩, ⟨A1, B1⟩, ⟨A2, B2⟩, A3, B3⟩
    isplitl [A0 A1]; · isplitl [A0] <;> iassumption
    isplitl [A2 A3]; · isplitl [A2] <;> iassumption
    isplitl [B0 B1]; · isplitl [B0] <;> iassumption
    isplitl [B2] <;> iassumption

theorem assoc4 (A0 A1 A2 A3 : sProp 𝕄) : iprop((A0 ∗ A1) ∗ (A2 ∗ A3)) = iprop(A0 ∗ A1 ∗ A2 ∗ A3) := by
  refine eq_of ?_ ?_
  · iintro ⟨⟨A0, A1⟩, A2, A3⟩
    isplitl [A0]; · iexact A0
    isplitl [A1]; · iexact A1
    isplitl [A2] <;> iassumption
  · iintro ⟨A0, A1, A2, A3⟩
    isplitl [A0 A1]; · isplitl [A0] <;> iassumption
    isplitl [A2] <;> iassumption

/-- The four landing buffers are the slots of the four chains. -/
theorem slots_eq (c : Dev nD) :
    (iprop((∃ f, (c : Thread nD τ).loc cc0_scratch3 ↦{fullShare} f) ∗ (∃ f, (c : Thread nD τ).loc cc0_scratch4 ↦{fullShare} f)
        ∗ (∃ f, (c : Thread nD τ).loc cc0_scratch5 ↦{fullShare} f) ∗ (∃ f, (c : Thread nD τ).loc cc0_scratch6 ↦{fullShare} f)) : sProp 𝕄)
      = bigSep Finset.univ fun ch : Fin 4 => bigSep Finset.univ fun u : Fin 16 => Any ch c u.val := by
  have e3 := buffer_slots (F := F) (Memref.whole cc0_scratch3) (View.set_whole _) c
  have e4 := buffer_slots (F := F) (Memref.whole cc0_scratch4) (View.set_whole _) c
  have e5 := buffer_slots (F := F) (Memref.whole cc0_scratch5) (View.set_whole _) c
  have e6 := buffer_slots (F := F) (Memref.whole cc0_scratch6) (View.set_whole _) c
  simp only [← (slot_low _).1, ← (slot_low _).2.1, ← (slot_low _).2.2.1, ← (slot_low _).2.2.2,
    ← (slot_high _).1, ← (slot_high _).2.1, ← (slot_high _).2.2.1, ← (slot_high _).2.2.2] at e3 e4 e5 e6
  rw [chains]
  simp only [two_halves (Any _ c)]
  exact (congrArg₂ BI.sep e3 (congrArg₂ BI.sep e4 (congrArg₂ BI.sep e5 e6))).trans (shuffle _ _ _ _ _ _ _ _)

/-! ## The send buffers -/

abbrev sbR (t : Fin 2) : Rect S128x2048 :=
  Rect.unit (s := S128x2048) ![0, 1024 * t.val] S128x1024.size (by
    intro a
    have := t.isLt
    fin_cases a
    · exact (by decide : 0 + 128 ≤ 128)
    · show 1024 * t.val + 1024 ≤ 2048; omega)

theorem sbR_mem (t : Fin 2) (i : S128x2048.Idx) : i ∈ (sbR t).set ↔ (i 1).val / 1024 = t.val := by
  rw [Rect.mem_set_unit]
  have h0 : (i 0).val < 128 := (i 0).isLt
  constructor
  · intro h
    have h2 := h 1
    change 1024 * t.val ≤ (i 1).val ∧ (i 1).val < 1024 * t.val + 1024 at h2
    omega
  · intro h2 a
    fin_cases a
    · show 0 ≤ (i 0).val ∧ (i 0).val < 0 + 128
      omega
    · show 1024 * t.val ≤ (i 1).val ∧ (i 1).val < 1024 * t.val + 1024
      omega

theorem buffer_halves (m : Memref sig .tc .vmem S128x2048 .bf16) (hm : m.view.set = Finset.univ) (c : Dev nD) :
    (iprop(∃ f, m.view.loc (c : Thread nD τ) ↦{fullShare} f) : sProp 𝕄)
      = iprop((∃ v, owns (c : Thread nD τ) (m.slice (sbR 0) (fun _ => rfl)) fullShare v)
          ∗ (∃ v, owns (c : Thread nD τ) (m.slice (sbR 1) (fun _ => rfl)) fullShare v)) := by
  rw [pieces m hm c sbR (fun t t' h => by
      rw [Finset.disjoint_left]
      intro i hi hi'
      rw [sbR_mem] at hi hi'
      exact h (Fin.ext (hi.symm.trans hi')))
    (fun i => by
      have h : (i 1).val < 2048 := (i 1).isLt
      exact ⟨⟨(i 1).val / 1024, by omega⟩, (sbR_mem _ i).mpr rfl⟩), bigSep_fin_two, any_owns, any_owns]
  rfl

/-- The two send buffers are the halves of the four chains. -/
theorem sends_eq (c : Dev nD) :
    (iprop((∃ f, (c : Thread nD τ).loc cc0_scratch1 ↦{fullShare} f) ∗ (∃ f, (c : Thread nD τ).loc cc0_scratch2 ↦{fullShare} f)) : sProp 𝕄)
      = bigSep Finset.univ fun ch : Fin 4 => iprop(∃ v, SB ch c v) := by
  have e1 := buffer_halves (F := F) (Memref.whole cc0_scratch1) (View.set_whole _) c
  have e2 := buffer_halves (F := F) (Memref.whole cc0_scratch2) (View.set_whole _) c
  rw [chains]
  exact (congrArg₂ BI.sep e1 e2).trans (assoc4 _ _ _ _)

end Cert.KernelIdeal.Own
end
-- ==== Proof.Start.lean ====
module

public import proofs.«01_k».proof.Proof.Fund
public import proofs.«01_k».proof.Proof.Buffers

/-!
# From a device's start to its end

What a device begins with, out of its share of the ring; and the run of the body from there to all its
counters at zero.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Protocol
variable (xs : Dev nD → Vec F S2048x128 .bf16) (ws : Dev nD → Vec F S128x2048 .bf16)

/-- The sixteen transfers of every chain, split in those made and those not. -/
theorem spans (Φ : Fin 4 → ℕ → sProp (MT nD τ sig Unit (Elt F) ℕ UU ℕ)) :
    (bigSep Finset.univ fun ch : Fin 4 => bigSep Finset.univ fun u : Fin 16 => Φ ch u.val)
      = iprop((bigSep Finset.univ fun ch : Fin 4 => bigSep (Finset.Ico (lo ch) (hi ch)) (Φ ch))
        ∗ bigSep Finset.univ fun ch : Fin 4 => bigSep (gaps ch) (Φ ch)) := by
  rw [← bigSep_sep', bigSep_congr (s := Finset.univ) fun (ch : Fin 4) _ => span_split ch (Φ ch)]

/-! ## What a device begins with -/

/-- What a device holds of a chain at the start, apart from the send buffer. -/
def Set' (ch : Fin 4) (c : Dev nD) : sProp 𝕄 := iprop(Toks ch c ∗ Await ch c (lo ch) ∗ Turn ch c (lo ch))

/-- What a device begins with, apart from its memory. The receive cells without a transfer are closed. -/
def Start (c : Dev nD) : sProp 𝕄 :=
  iprop(Recs xs ws ∗ BarPre c ∗ (bigSep Finset.univ fun ch => Set' ch c)
    ∗ bigSep Finset.univ fun ch : Fin 4 => bigSep (gaps ch) fun u => semVal (recvCell ch u c) 0)

theorem recs_intro : iprop(Invs xs ws ∗ levAts L lv) ⊢ Recs xs ws := BI.Entails.refl _

theorem set_intro (ch : Fin 4) (c : Dev nD) :
    iprop(Recs xs ws ∗ recvToks ch (nxt ch c) ∗ sendToks ch c
        ∗ (bigSep (Finset.Ico (lo ch) (hi ch)) fun u => cred (tallyAt (recvCell ch u c) () N))
        ∗ (bigSep (Finset.Ico (lo ch) (hi ch)) fun u => atPos ER (recvCell ch u c) 0 ∅ 0)
        ∗ atPos ER (sendCell ch c) 0 ∅ 0)
      ⊢ (Set' ch c : sProp 𝕄) := by
  unfold Set' Toks Await due Turn recvToks sendToks
  rw [bigSep_sep', bigSep_sep', Nat.sub_self]
  iintro ⟨#HR, Hr, Hs, Hc, Ha, Hp⟩
  ihave Hi := (recs_send xs ws ch c) $$ HR
  icases Hi with ⟨%κ, -, #Hre⟩
  isplitl [Hr Hs]
  · isplitl [Hs]; · iexact Hs
    iexact Hr
  isplitl [Hc Ha]
  · isplitl [Hc]; · iexact Hc
    iexact Ha
  isplitl [Hp]; · iexact Hp
  iexact Hre

/-- A receive cell without a transfer closes at once. -/
theorem gap_close (ch : Fin 4) (c : Dev nD) (u : ℕ) (h : u ∈ gaps ch) :
    iprop(Recs xs ws ∗ atPos ER (recvCell ch u c) 0 ∅ 0) ⊢ |={Set.univ}=> (semVal (recvCell ch u c) 0 : sProp 𝕄) := by
  obtain ⟨h16, ho⟩ := gaps_out ch h
  iintro ⟨#HR, Ha⟩
  ihave Hi := (recs_recv xs ws ch u h16 c) $$ HR
  icases Hi with ⟨%κ, #HI, -⟩
  imod (Rounds.cell_close ER (Rd xs ws) (Set.mem_univ κ) (fun h => h) (R := 0) (no_recv' xs ws c ch u h16 ho)) $$ [Ha] with Hz
  · isplitr; · iexact HI
    iexact Ha
  imodintro
  iexact Hz

theorem gaps_close (c : Dev nD) :
    iprop(Recs xs ws ∗ bigSep Finset.univ fun ch : Fin 4 => bigSep (gaps ch) fun u => atPos ER (recvCell ch u c) 0 ∅ 0)
      ⊢ |={Set.univ}=> bigSep Finset.univ fun ch : Fin 4 => bigSep (gaps ch) fun u => (semVal (recvCell ch u c) 0 : sProp 𝕄) :=
  (bigSep_with_persistent fun ch _ => (bigSep_with_persistent fun u hu => gap_close xs ws ch c u hu).trans (bigSep_fupd _ _)).trans
    (bigSep_fupd _ _)

/-- The start of a device from its share of the ring and its credit. -/
theorem start_intro (c : Dev nD) :
    iprop(levAts L lv ∗ Pipeline.launchCred debt₀ c ∗ G' xs ws c) ⊢ |={Set.univ}=> Start xs ws c := by
  have e : (bigSep Finset.univ fun k : Fin 69 => (atPos ER (kcell (c, k)) 0 ∅ 0 : sProp 𝕄))
      = iprop(atPos ER (barCell c) 0 ∅ 0 ∗ (bigSep Finset.univ fun ch : Fin 4 => atPos ER (sendCell ch c) 0 ∅ 0)
        ∗ (bigSep Finset.univ fun ch : Fin 4 => bigSep (Finset.Ico (lo ch) (hi ch)) fun u => atPos ER (recvCell ch u c) 0 ∅ 0)
        ∗ bigSep Finset.univ fun ch : Fin 4 => bigSep (gaps ch) fun u => atPos ER (recvCell ch u c) 0 ∅ 0) := by
    refine (kinds fun sm => atPos ER ((c : Thread nD τ), sm) 0 ∅ 0).trans ?_
    exact congrArg (fun P => iprop(atPos ER (barCell c) 0 ∅ 0 ∗ (bigSep Finset.univ fun ch : Fin 4 => atPos ER (sendCell ch c) 0 ∅ 0) ∗ P))
      (spans fun ch u => atPos ER (recvCell ch u c) 0 ∅ 0)
  unfold G'
  rw [e]
  unfold pays
  iintro ⟨#Hlev, Hcr, #HI, ⟨HaB, HaS, HaR, HaG⟩, Htr, Hts, Htf, Htt⟩
  ihave Hc := (creds (F := F) c) $$ Hcr
  icases Hc with ⟨HcB, HcR⟩
  ihave #HR := (recs_intro xs ws) $$ []
  · isplitr; · iexact HI
    iexact Hlev
  imod (gaps_close xs ws c) $$ [HaG] with Hz
  · isplitr; · iexact HR
    iexact HaG
  imodintro
  unfold Start BarPre
  isplitr; · iexact HR
  isplitl [Htf Htt HcB HaB]
  · isplitl [Htf]; · iexact Htf
    isplitl [Htt]; · iexact Htt
    isplitl [HcB]; · iexact HcB
    iexact HaB
  isplitl [Htr Hts HcR HaR HaS]
  · iapply (bigSep_with_persistent (R := Recs xs ws) fun ch _ => set_intro xs ws ch c)
    isplitr; · iexact HR
    simp only [bigSep_sep']
    isplitl [Htr]; · iexact Htr
    isplitl [Hts]; · iexact Hts
    isplitl [HcR]; · iexact HcR
    isplitl [HaR]; · iexact HaR
    iexact HaS
  iexact Hz

/-! ## The memory -/

/-- The scratch memory of a device, with any contents. -/
def Scratch (c : Dev nD) : sProp 𝕄 :=
  iprop((∃ f : S2048x2048.Idx → Elt F .bf16, ((c : Thread nD τ).loc cc0_scratch0) ↦{fullShare} f)
    ∗ (bigSep Finset.univ fun ch : Fin 4 => iprop(∃ v, SB ch c v))
    ∗ bigSep Finset.univ fun ch : Fin 4 => bigSep Finset.univ fun u : Fin 16 => Any ch c u.val)

theorem scratch_eq (c : Dev nD) :
    (Pipeline.scopedRest (Ix := Unit) (Name := ℕ) (U := UU) (Lvl := ℕ) (Val := Elt F) cfg0.spec c : sProp 𝕄) = Scratch c := by
  rw [scopedRest0_eq]
  unfold Scratch
  rw [← sends_eq, ← slots_eq]
  refine eq_of ?_ ?_
  · iintro ⟨H0, H1, H2, H3, H4, H5, H6⟩
    isplitl [H0]; · iexact H0
    isplitl [H1 H2]
    · isplitl [H1] <;> iassumption
    isplitl [H3]; · iexact H3
    isplitl [H4]; · iexact H4
    isplitl [H5] <;> iassumption
  · iintro ⟨H0, ⟨H1, H2⟩, H3, H4, H5, H6⟩
    isplitl [H0]; · iexact H0
    isplitl [H1]; · iexact H1
    isplitl [H2]; · iexact H2
    isplitl [H3]; · iexact H3
    isplitl [H4]; · iexact H4
    isplitl [H5] <;> iassumption

/-! ## What a device ends with -/

/-- All counters at zero, and the scratch memory. -/
def Over (c : Dev nD) : sProp 𝕄 :=
  iprop((bigSep Finset.univ fun k : Fin 69 => semVal (kcell (c, k)) 0) ∗ Scratch c)

theorem over_intro (c : Dev nD) :
    iprop(semVal (barCell c) 0 ∗ (End 0 c ∗ End 1 c ∗ End 2 c ∗ End 3 c)
        ∗ (bigSep Finset.univ fun ch : Fin 4 => bigSep (gaps ch) fun u => semVal (recvCell ch u c) 0)
        ∗ (bigSep Finset.univ fun ch : Fin 4 => bigSep (gaps ch) fun u => Any ch c u)
        ∗ (∃ f : S2048x2048.Idx → Elt F .bf16, ((c : Thread nD τ).loc cc0_scratch0) ↦{fullShare} f))
      ⊢ (Over c : sProp 𝕄) := by
  have e : (bigSep Finset.univ fun k : Fin 69 => (semVal (kcell (c, k)) 0 : sProp 𝕄))
      = iprop(semVal (barCell c) 0 ∗ (bigSep Finset.univ fun ch : Fin 4 => semVal (sendCell ch c) 0)
        ∗ (bigSep Finset.univ fun ch : Fin 4 => bigSep (Finset.Ico (lo ch) (hi ch)) fun u => semVal (recvCell ch u c) 0)
        ∗ bigSep Finset.univ fun ch : Fin 4 => bigSep (gaps ch) fun u => semVal (recvCell ch u c) 0) := by
    refine (kinds fun sm => semVal ((c : Thread nD τ), sm) 0).trans ?_
    exact congrArg (fun P => iprop(semVal (barCell c) 0 ∗ (bigSep Finset.univ fun ch : Fin 4 => semVal (sendCell ch c) 0) ∗ P))
      (spans fun ch u => semVal (recvCell ch u c) 0)
  have e' : (bigSep Finset.univ fun ch : Fin 4 => bigSep Finset.univ fun u : Fin 16 => (Any ch c u.val : sProp 𝕄))
      = iprop((bigSep Finset.univ fun ch : Fin 4 => bigSep (Finset.Ico (lo ch) (hi ch)) fun u => Any ch c u)
        ∗ bigSep Finset.univ fun ch : Fin 4 => bigSep (gaps ch) fun u => Any ch c u) := spans fun ch u => Any ch c u
  unfold Over Scratch
  rw [e, e', ← chains fun ch => End ch c]
  unfold End Shut Kept
  simp only [bigSep_sep']
  iintro ⟨HB, ⟨HR, HK, HSB, HS⟩, HG, HM, Hp⟩
  isplitl [HB HR HS HG]
  · isplitl [HB]; · iexact HB
    isplitl [HS]; · iexact HS
    isplitl [HR]; · iexact HR
    iexact HG
  isplitl [Hp]; · iexact Hp
  isplitl [HSB]; · iexact HSB
  isplitl [HK]; · iexact HK
  iexact HM

/-! ## The body between the two -/

/-- A device's run of the body from its start. -/
theorem wp_text (c : Dev nD) (Q : PUnit.{1} → sProp (MT nD τ sig Unit (Elt F) ℕ UU ℕ)) (W : Waits sig Unit) :
    iprop(Start xs ws c ∗ Scratch c ∗ owes (c : Thread nD τ) (debt₀ c) W
        ∗ (((c : Thread nD τ).loc cc0_stg0_0) ↦{fullShare} xs c) ∗ (((c : Thread nD τ).loc cc0_stg1_0) ↦{fullShare} ws c)
        ∗ (∃ f : S2048x2048.Idx → Elt F .f32, ((c : Thread nD τ).loc cc0_stg2_0) ↦{fullShare} f))
      ⊢ iprop(((Over c ∗ (∃ W, owes (c : Thread nD τ) 0 W)
            ∗ (((c : Thread nD τ).loc cc0_stg0_0) ↦{fullShare} xs c) ∗ (((c : Thread nD τ).loc cc0_stg1_0) ↦{fullShare} ws c)
            ∗ (((c : Thread nD τ).loc cc0_stg2_0) ↦{fullShare} res xs ws c)) -∗ Q ⟨⟩)
          -∗ WP c text Q) := by
  have e : (bigSep Finset.univ fun ch : Fin 4 => bigSep Finset.univ fun u : Fin 16 => (Any ch c u.val : sProp 𝕄))
      = iprop((bigSep Finset.univ fun ch : Fin 4 => lands ch c)
        ∗ bigSep Finset.univ fun ch : Fin 4 => bigSep (gaps ch) fun u => Any ch c u) := spans fun ch u => Any ch c u
  have e' : iprop((bigSep Finset.univ fun ch : Fin 4 => Set' ch c) ∗ bigSep Finset.univ fun ch : Fin 4 => iprop(∃ v, SB ch c v))
      ⊢ (iprop(Pre 0 c ∗ Pre 1 c ∗ Pre 2 c ∗ Pre 3 c) : sProp 𝕄) := by
    rw [← chains fun ch => Pre ch c]
    unfold Pre Set'
    simp only [bigSep_sep']
    iintro ⟨⟨H1, H2, H3⟩, H4⟩
    isplitl [H1]; · iexact H1
    isplitl [H2]; · iexact H2
    isplitl [H3]; · iexact H3
    iexact H4
  unfold text Start Scratch
  rw [e, chains fun ch => (lands ch c : sProp 𝕄)]
  simp only [wp_deviceId]
  iintro ⟨⟨HR, HB, Hset, Hg⟩, ⟨Hp, Hsb, Hl, Hm⟩, HO, Hx, Hw, Ho⟩ Hk
  ihave Hpre := e' $$ [Hset Hsb]
  · isplitl [Hset] <;> iassumption
  iapply (wp_rest xs ws c Q W) $$ [HR HB Hl Hpre HO Hx Hw Ho Hp]
  · isplitl [HR]; · iexact HR
    isplitl [HB]; · iexact HB
    isplitl [Hl]; · iexact Hl
    isplitl [Hpre]; · iexact Hpre
    isplitl [HO]; · iexact HO
    isplitl [Hx]; · iexact Hx
    isplitl [Hw]; · iexact Hw
    isplitl [Ho]; · iexact Ho
    iexact Hp
  iintro ⟨HB, HE, HO, Hx, Hw, Ho, Hp⟩
  iapply Hk
  isplitl [HB HE Hg Hm Hp]
  · iapply (over_intro c)
    isplitl [HB]; · iexact HB
    isplitl [HE]; · iexact HE
    isplitl [Hg]; · iexact Hg
    isplitl [Hm]; · iexact Hm
    iexists _; iexact Hp
  isplitl [HO]; · iexact HO
  isplitl [Hx]; · iexact Hx
  isplitl [Hw]; · iexact Hw
  iexact Ho

end Protocol

end Cert.KernelIdeal.Own
end
-- ==== Proof.TextEq.lean ====
module

public import proofs.«01_k».proof.Proof.Text
public import Idealize.ShloMosaic.Lib.Tactic

/-! # The printed body is the text of ring steps -/

@[expose] public section

noncomputable section

namespace Cert.KernelIdeal.Own

open Idealize.ShloMosaic Idealize.SL.Sem Cert.KernelIdeal Cert.KernelIdeal.Gen

variable {F : FTy → Type} [FloatOps F]

set_option maxRecDepth 65536 in
/-- The printed body is the text. -/
theorem body_eq (t : Fin cfg0.N) : bodyAt0 (F := F) t = text (F := F) := by
  have h := t.isLt
  fin_cases t
  sl_kernel_rfl

end Cert.KernelIdeal.Own
end
-- ==== Proof.Launch.lean ====
module

public import proofs.«01_k».proof.Proof.Start
public import proofs.«01_k».proof.Proof.TextEq
public import Idealize.ShloMosaic.Lib.Pipeline.CollectiveSegs

/-!
# The run of the whole kernel

From any memory with the counters at zero every execution of the kernel ends; it leaves the arguments, puts
the ring's result in the result array of every device and brings every counter back to zero.
-/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

/-- A device's block of the first argument. -/
def xs (c : Dev nD) : Vec F S2048x128 .bf16 := m ((c : Thread nD τ).loc main_arg0)
/-- A device's block of the second argument. -/
def ws (c : Dev nD) : Vec F S128x2048 .bf16 := m ((c : Thread nD τ).loc main_arg1)

/-- The launch's data: what the arrays hold, what the body leaves, what a device holds before and after it. -/
def dats (_ : Fin 1) (c : Dev nD) : Pipeline.Dat τ (Elt F) Unit ℕ UU ℕ cfg0 c where
  A w := m ((cfg0.win w).arr.view.loc (c : Thread nD τ))
  after w _ := match w with
    | ⟨0, _⟩ => xs m c
    | ⟨1, _⟩ => ws m c
    | ⟨2, _⟩ => res (xs m) (ws m) c
  Φ t := match t with
    | ⟨0, _⟩ => iprop(Start (xs m) (ws m) c ∗ Scratch c)
    | ⟨_ + 1, _⟩ => Over c
  q _ := fullShare
  owed t := match t with
    | ⟨0, _⟩ => debt₀ c
    | ⟨_ + 1, _⟩ => 0

theorem blk_x (f : (main_arg0 : Ref sig .tc).ty.Contents (Elt F)) : (win0_0.blk t0_0).view.read (Elt F) f = f :=
  Memref.read_access_unit_zero (Elt F) main_arg0 (funext fun a => by fin_cases a <;> decide) (fun a => by fin_cases a <;> decide) f
theorem blk_w (f : (main_arg1 : Ref sig .tc).ty.Contents (Elt F)) : (win0_1.blk t0_0).view.read (Elt F) f = f :=
  Memref.read_access_unit_zero (Elt F) main_arg1 (funext fun a => by fin_cases a <;> decide) (fun a => by fin_cases a <;> decide) f
theorem blk_o (f : (main_v1 : Ref sig .tc).ty.Contents (Elt F)) : (win0_2.blk t0_0).view.read (Elt F) f = f :=
  Memref.read_access_unit_zero (Elt F) main_v1 (funext fun a => by fin_cases a <;> decide) (fun a => by fin_cases a <;> decide) f

theorem before_x (c : Dev nD) (d) : (dats m 0 c).before (0 : Fin 3) t0_0 d = xs m c := by
  unfold Pipeline.Dat.before
  exact (if_pos (fetch0_0 t0_0)).trans ((show (dats m 0 c).fetched (0 : Fin 3) t0_0 d = (win0_0.blk t0_0).view.read (Elt F) (xs m c) from rfl).trans (blk_x _))
theorem before_w (c : Dev nD) (d) : (dats m 0 c).before (1 : Fin 3) t0_0 d = ws m c := by
  unfold Pipeline.Dat.before
  exact (if_pos (fetch0_1 t0_0)).trans ((show (dats m 0 c).fetched (1 : Fin 3) t0_0 d = (win0_1.blk t0_0).view.read (Elt F) (ws m c) from rfl).trans (blk_w _))

/-! ## The body's obligation -/

/-- A staging buffer with given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def before' (c : Dev nD) : sProp 𝕄 :=
  iprop((Start (xs m) (ws m) c ∗ Scratch c) ∗ (dats m 0 c).owesAt () (t0_0 : Fin cfg0.N).castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def after' (c : Dev nD) : sProp 𝕄 :=
  iprop(Over c ∗ (dats m 0 c).owesAt () (t0_0 : Fin cfg0.N).succ
    ∗ stg c cc0_stg0_0 (xs m c) ∗ stg c cc0_stg1_0 (ws m c) ∗ stg c cc0_stg2_0 (res (xs m) (ws m) c))

theorem body_wp (c : Dev nD) : before' m c ⊢ WP c text fun _ => after' m c := by
  unfold before' Pipeline.Dat.owesAt Pipeline.owesWithin
  rw [show (dats m 0 c).owed (t0_0 : Fin cfg0.N).castSucc = debt₀ c from rfl]
  iintro ⟨⟨HS, HM⟩, ⟨%W, %hW, HO⟩, ⟨%d0, %f0, %h0, Hx⟩, ⟨%d1, %f1, %h1, Hw⟩, ⟨%d2, %f2, %h2, Ho⟩⟩
  rw [before_x] at h0
  rw [before_w] at h1
  subst h0 h1
  iapply (wp_text (xs m) (ws m) c (fun _ => after' m c) W) $$ [HS HM HO Hx Hw Ho]
  · isplitl [HS]; · iexact HS
    isplitl [HM]; · iexact HM
    isplitl [HO]; · iexact HO
    isplitl [Hx]; · iexact Hx
    isplitl [Hw]; · iexact Hw
    iexists f2; iexact Ho
  iintro ⟨HE, ⟨%W', HO⟩, Hx, Hw, Ho⟩
  unfold after' Pipeline.Dat.owesAt Pipeline.owesWithin
  rw [show (dats m 0 c).owed (t0_0 : Fin cfg0.N).succ = 0 from rfl]
  isplitl [HE]; · iexact HE
  isplitl [HO]
  · iexists W'
    isplitr; · (ipureintro; exact fun _ _ => Or.inl trivial)
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

theorem owns_any (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]

set_option maxRecDepth 20000 in
theorem body_obligation (c : Dev nD) : Pipeline.BodyObligation (dats (F := F) m 0 c) (defs₀ (F := F)) 𝒱₀ () Set.univ := fun t => by
  rw [fin_N0 t]
  rw [show (Finset.univ : Finset (Fin cfg0.W)) = (Finset.univ : Finset (Fin 3)) from rfl, bigSep_W0, bigSep_W0]
  simp only [owns_any]
  show before' m c ⊢ WP c (bodyAt0 t0_0) fun _ => after' m c
  rw [body_eq]
  exact body_wp m c

/-! ## The launch's side conditions -/

theorem ownSemFacts : Pipeline.OwnSemFacts cfg0.spec osem := by decide +kernel

theorem share_eq (c : Dev nD) (w : Fin cfg0.W) : (dats m 0 c).share w = fullShare := by
  unfold Pipeline.Dat.share
  split <;> rfl

theorem hX (c : Dev nD) :
    iprop(Pipeline.unscopedRestP Pipeline.Prefetch.none cfg0.spec c (fun b => m ((c : Thread nD τ).loc b)) ∗ levAts L lv
        ∗ Pipeline.launchCred debt₀ c ∗ prngReg c (ρ c) ∗ G' (xs m) (ws m) c)
      ⊢ |={Set.univ}=> iprop(Start (xs m) (ws m) c ∗ emp) := by
  iintro ⟨-, Hl, Hc, -, HG⟩
  imod (start_intro (xs m) (ws m) c) $$ [Hl Hc HG] with HS
  · isplitl [Hl]; · iexact Hl
    isplitl [Hc] <;> iassumption
  imodintro
  isplitl [HS]; · iexact HS
  iempintro

theorem hin (c : Dev nD) :
    iprop(Start (xs m) (ws m) c ∗ Pipeline.prefHeld Pipeline.Prefetch.none c (fun _ => fullShare.right) (fun k => k.elim0)
        ∗ Pipeline.scopedRest cfg0.spec c) ⊢ (dats m 0 c).Φ 0 := by
  rw [show (dats m 0 c).Φ 0 = iprop(Start (xs m) (ws m) c ∗ Scratch c) from rfl, scratch_eq]
  iintro ⟨HS, -, HM⟩
  isplitl [HS] <;> iassumption

theorem hout (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Over c from rfl, scratch_eq]
  unfold Over
  rw [← sems_eq]
  iintro ⟨⟨Hu, Ho⟩, HM⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t => by
    have hs : ((cfg0.win w).sem s).val < 7 := by fin_cases w <;> fin_cases s <;> decide
    rcases t with ⟨_ | _, ht⟩
    · exact may_wait_stage c _ hs
    · exact (may_wait_low c _ hs hi).trans (Entails.of_eq (by rw [debt_none c hi fun _ => le_rfl]; rfl))

/-! ## The run -/

/-- What an array holds after the run. -/
def finalA (c : Dev nD) (w : Fin cfg0.W) : Buf (Elt F) ((cfg0.win w).arr.view.loc (c : Thread nD τ)) := (dats m 0 c).arrAt w cfg0.N

set_option maxRecDepth 40000 in
/-- From any memory with the counters at zero every execution ends, with the arrays at the computed contents on
every device and every counter at zero again. -/
theorem run_main : θ_run defs (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl) (hbody := body_obligation m) (hne := block_pos0) (harr := arr_whole0) (hstage := stage_whole0)
    (hshare := share_eq m) (hdistinct := winFacts0.arr_inj)
    (O₀ := debt₀) (howed₀ := fun _ => rfl) (howedN := fun _ => rfl)
    (L := L) (lv := lv) (hL := L_of_ne) (hwaits := waits m)
    (G := G (xs m) (ws m)) (G' := G' (xs m) (ws m)) (u₀ := u₀)
    (hu₀ := by
      unfold u₀
      iintro Hu
      ihave H := (ownU_pair _ _) $$ Hu
      icases H with ⟨HP, HX⟩
      imod (fund_ring (xs m) (ws m)) $$ HX with HG
      imodintro
      isplitl [HP] <;> iassumption)
    (hglob := glob (xs m) (ws m))
    (hA := fun _ _ => rfl) (hpf := fun _ k => k.elim0)
    (X := Start (xs m) (ws m)) (Y := fun c => unscopedSems0 c) (Z := fun _ => iprop(emp))
    (hX := hX m ρ) (hin := hin m) (hout := hout m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem final_x (c : Dev nD) : finalA m c (0 : Fin 3) = m ((c : Thread nD τ).loc main_arg0) := (dats m 0 c).arrAt_in (0 : Fin 3) rfl _
theorem final_w (c : Dev nD) : finalA m c (1 : Fin 3) = m ((c : Thread nD τ).loc main_arg1) := (dats m 0 c).arrAt_in (1 : Fin 3) rfl _

theorem final_o (c : Dev nD) : finalA m c (2 : Fin 3) = res (xs m) (ws m) c := by
  refine (blk_o (finalA m c (2 : Fin 3))).symm.trans ?_
  unfold finalA
  rw [show cfg0.N = (t0_0 : Fin cfg0.N).val + 1 from N_0, (dats m 0 c).arrAt_succ (2 : Fin 3) t0_0]
  rw [if_pos (flush0_2 t0_0)]
  exact View.read_write_univ _ _

/-- The run: the arguments are unchanged, the result is as computed, and the counters are back at zero. -/
theorem run_res : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = res (xs m) (ws m) c) ∧ r.2.sem = fun _ => 0) :=
  (θ_run defs _ _).mono (fun _ h => ⟨fun c => ⟨(h.1 c (0 : Fin 3)).trans (final_x m c), (h.1 c (1 : Fin 3)).trans (final_w m c),
    (h.1 c (2 : Fin 3)).trans (final_o m c)⟩, h.2⟩) (run_main m ρ)

end Cert.KernelIdeal.Own
end
-- ==== Proof.Exact.lean ====
module

public import proofs.«01_k».proof.Proof.Result
public import Idealize.ShloMosaic.Lib.Pointwise

/-!
# The ring over the extended reals

Read at the exact values, every transfer carries a sum of partial products, a finished block is the
activation of the sum over all devices, and all devices end with the same result.
-/

@[expose] public section

noncomputable section

namespace Cert.KernelIdeal.Own

open Idealize.ShloMosaic Cert.KernelIdeal Cert.KernelIdeal.Gen

variable (xs : Dev nD → Vec Ideal S2048x128 .bf16) (ws : Dev nD → Vec Ideal S128x2048 .bf16)

/-- Device `d`'s share of an element of the whole product. -/
def share (d : Dev nD) (i : S2048x2048.Idx) : EReal := ∑ k : Fin 128, xs d (ix2 (i 0) k) * ws d (ix2 k (i 1))

/-- The activation of an extended real. -/
def act (y : EReal) : EReal := Ideal.div y (1 + Ideal.exp (-y))

theorem prod_at (d : Dev nD) (i : S2048x2048.Idx) : prod (xs d) (ws d) i = share xs ws d i := by
  unfold prod share
  pointwise

theorem part_at (d : Dev nD) (i : S2048x2048.Idx) : part xs ws d i = share xs ws d i := by
  rw [← prod_at]
  unfold part prodN
  pointwise

theorem narrow_at (z : FVec Ideal S128x1024 .f32) (j : S128x1024.Idx) : narrow z j = z j := by
  unfold narrow
  pointwise

theorem wide_at (z : FVec Ideal S128x1024 .bf16) (j : S128x1024.Idx) : wideV z j = z j := by
  unfold wideV
  pointwise

theorem same_at (z : FVec Ideal S128x1024 .bf16) (j : S128x1024.Idx) : same z j = z j := by
  unfold same
  pointwise

theorem plus_at (x p : FVec Ideal S128x1024 .bf16) (j : S128x1024.Idx) : plusV x p j = (x j + p j : EReal) := by
  unfold plusV
  pointwise

theorem total_at (o : FVec Ideal S128x1024 .f32) (x y : FVec Ideal S128x1024 .bf16) (j : S128x1024.Idx) :
    totalV o x y j = (o j + x j + y j : EReal) := by
  unfold totalV
  pointwise

theorem exp_nonneg (y : EReal) : 0 ≤ Ideal.exp y := by
  induction y with
  | bot => exact le_rfl
  | top => exact le_top
  | coe r => exact EReal.coe_nonneg.mpr (Real.exp_pos r).le

theorem act_eq (y : EReal) : y * Ideal.div 1 (1 + Ideal.exp (0 - y)) = act y := by
  have h0 : (1 + Ideal.exp (-y) : EReal) ≠ 0 := by
    have h : (0 : EReal) < 1 + Ideal.exp (-y) := lt_of_lt_of_le zero_lt_one (le_add_of_nonneg_right (exp_nonneg _))
    exact h.ne'
  unfold act Ideal.div
  rw [zero_sub, if_neg h0, if_neg h0, one_mul]

theorem silu_at (z : FVec Ideal S128x1024 .f32) (j : S128x1024.Idx) : silu z j = act (z j) := by
  rw [← act_eq]
  unfold silu
  pointwise

theorem row_at (d : Dev nD) (k : ℕ) (ch : Fin 4) (r : Fin 128) (l : Fin 128) (j : S128x1024.Idx) (h : r = j 0) :
    rowBlk k (xs d) (ix2 r l) = xs d (ix2 ((blkR k ch).emb j 0) l) := by
  subst h
  refine congrArg (xs d) (funext fun a => ?_)
  fin_cases a
  · exact Fin.ext rfl
  · exact Fin.ext (show 0 + 1 * l.val = l.val by omega)

theorem rowsL_at (d : Dev nD) (k : ℕ) (j : S128x1024.Idx) :
    rowsL (rowBlk k (xs d)) (ws d) j = share xs ws d ((blkR k 0).emb j) := by
  have e : ((blkR k 0).emb j 1).val = (j 1).val := (emb_col k 0 j).trans (Nat.zero_add _)
  unfold rowsL rowsProd narrow share
  pointwise
  refine Finset.sum_congr rfl fun l _ => ?_
  rw [row_at xs d k 0 _ l j rfl]
  refine congrArg (xs d _ * ws d ·) (congrArg (ix2 l ·) (Fin.ext e.symm))

theorem rowsR_at (d : Dev nD) (k : ℕ) (j : S128x1024.Idx) :
    rowsR (rowBlk k (xs d)) (ws d) j = share xs ws d ((blkR k 1).emb j) := by
  have e : ((blkR k 1).emb j 1).val = 1024 + (j 1).val := emb_col k 1 j
  unfold rowsR rowsProd narrow share
  pointwise
  refine Finset.sum_congr rfl fun l _ => ?_
  rw [row_at xs d k 1 _ l j rfl]
  refine congrArg (xs d _ * ws d ·) (congrArg (ix2 l ·) (Fin.ext e.symm))

/-! ## What a chain has gathered -/

/-- The place of the rows transfer `u` carries when device `c` sends it. -/
def rowOf (ch : Fin 4) (c : Dev nD) (u : ℕ) : ℕ :=
  match ch with
  | 0 => (pos c + 24 - u) % 16
  | 1 => (pos c + 24 - u) % 16
  | 2 => (pos c + 8 + u) % 16
  | 3 => (pos c + 8 + u) % 16

theorem row_next (ch : Fin 4) (c : Dev nD) (u : Fin 7) :
    rowOf ch c (u.val + 1) = rowsAt ch c u.val ∧ rowOf ch (prv ch c) u.val = rowOf ch c (u.val + 1) := by
  revert ch c u; decide +kernel

theorem row_last (ch : Fin 4) (c : Dev nD) :
    rowOf ch (prv ch c) 7 = pos c := by
  revert ch c; decide

theorem blkR_mod (k : ℕ) (ch : Fin 4) (j : S128x1024.Idx) : (blkR (k % 16) ch).emb j = (blkR k ch).emb j := by
  refine idx_ext ?_ ?_
  · rw [emb_row, emb_row, Nat.mod_mod]
  · rw [emb_col, emb_col]

theorem of_lo_zero : ∀ ch : Fin 4, lo ch = 0 → ch = 0 ∨ ch = 3 := by decide

/-- The block a chain starts from is the device's own. -/
theorem first_at (ch : Fin 4) (hl : lo ch = 0) (c : Dev nD) (j : S128x1024.Idx) :
    firstV xs ws ch c j = share xs ws c ((blkR (rowOf ch c 0) ch).emb j) := by
  have e : rowOf ch c 0 = (pos c + 8) % 16 := by revert ch c; decide
  rw [e, blkR_mod]
  rcases of_lo_zero ch hl with rfl | rfl
  · exact rowsL_at xs ws c _ j
  · exact rowsR_at xs ws c _ j

theorem chain_at (ch : Fin 4) (n : ℕ) (h : lo ch + n ≤ 7) (c : Dev nD) (j : S128x1024.Idx) :
    V xs ws (lo ch + n) ch c j
      = ∑ r ∈ Finset.range (n + 1), share xs ws ((prv ch)^[r] c) ((blkR (rowOf ch c (lo ch + n)) ch).emb j) := by
  induction n generalizing c with
  | zero =>
    rw [Finset.sum_range_one, Nat.add_zero]
    rcases (show lo ch = 0 ∨ lo ch = 1 by revert ch; decide) with e | e
    · rw [e, V_zero]
      exact first_at xs ws ch e c j
    · rw [e, V_first xs ws ch c e, same_at]
      refine (part_at xs ws c _).trans ?_
      rw [← show rowOf ch c 1 = rowsAt ch c 0 from (row_next ch c 0).1]
      rfl
  | succ n ih =>
    have hr := row_next ch c ⟨lo ch + n, by omega⟩
    rw [← Nat.add_assoc, V_rs xs ws ch c _ (by omega) (Nat.le_add_right _ _), plus_at, ih (by omega), hr.2,
      Finset.sum_range_succ' _ (n + 1)]
    refine congrArg₂ (· + ·) rfl ?_
    refine (part_at xs ws c _).trans ?_
    rw [← hr.1]
    rfl

/-! ## The finished blocks and the result -/

/-- A device, those before it clockwise and those before it counter-clockwise are all devices. -/
theorem all_devices (ch : Fin 4) (c : Dev nD) :
    (Finset.univ : Finset (Dev nD)).val
      = c ::ₘ ((Multiset.range (8 - lo (cwOf ch))).map (fun r => (prv (cwOf ch))^[r] (prv (cwOf ch) c))
        + (Multiset.range (8 - lo (ccwOf ch))).map (fun r => (prv (ccwOf ch))^[r] (prv (ccwOf ch) c))) := by
  revert ch c; decide +kernel

theorem sum_devices (ch : Fin 4) (c : Dev nD) (g : Dev nD → EReal) :
    g c + (∑ r ∈ Finset.range (8 - lo (cwOf ch)), g ((prv (cwOf ch))^[r] (prv (cwOf ch) c)))
        + (∑ r ∈ Finset.range (8 - lo (ccwOf ch)), g ((prv (ccwOf ch))^[r] (prv (ccwOf ch) c))) = ∑ d, g d := by
  show _ = (Multiset.map g (Finset.univ : Finset (Dev nD)).val).sum
  rw [all_devices ch c, Multiset.map_cons, Multiset.sum_cons, Multiset.map_add, Multiset.sum_add, Multiset.map_map,
    Multiset.map_map, add_assoc]
  rfl

theorem seven_at (ch : Fin 4) (c : Dev nD) (j : S128x1024.Idx) :
    V xs ws 7 ch (prv ch c) j
      = ∑ r ∈ Finset.range (8 - lo ch), share xs ws ((prv ch)^[r] (prv ch c)) ((blkR (pos c) ch).emb j) := by
  have hl : lo ch ≤ 7 := by revert ch; decide
  have h := chain_at xs ws ch (7 - lo ch) (by omega) (prv ch c) j
  rw [show lo ch + (7 - lo ch) = 7 by omega, show 7 - lo ch + 1 = 8 - lo ch by omega, row_last] at h
  exact h

theorem emb_side (k : ℕ) (ch : Fin 4) (j : S128x1024.Idx) :
    (blkR k (cwOf ch)).emb j = (blkR k ch).emb j ∧ (blkR k (ccwOf ch)).emb j = (blkR k ch).emb j := by
  fin_cases ch <;> exact ⟨rfl, rfl⟩

theorem Z_at (ch : Fin 4) (c : Dev nD) (j : S128x1024.Idx) :
    Z xs ws ch c j = act (∑ d, share xs ws d ((blkR (pos c) ch).emb j)) := by
  unfold Z
  rw [silu_at, total_at, seven_at, seven_at, (emb_side _ ch j).1, (emb_side _ ch j).2,
    ← sum_devices ch c fun d => share xs ws d ((blkR (pos c) ch).emb j)]
  refine congrArg act (congrArg₂ (· + ·) (congrArg₂ (· + ·) ?_ rfl) rfl)
  exact prod_at xs ws c _

/-- Every device ends with the activation of the sum over all devices. -/
theorem res_at (c : Dev nD) (i : S2048x2048.Idx) : res xs ws c i = act (∑ d, share xs ws d i) := by
  have hp : place i < 16 := by have := place_lt i; unfold place; omega
  have key : resBlk xs ws c (place i) (sideOf i) (inBlk i)
      = act (∑ d, share xs ws d ((blkR (place i) (sideOf i)).emb (inBlk i))) := by
    unfold resBlk
    split
    · rename_i h
      rw [Z_at, h]
    · rw [wide_at, narrow_at, Z_at, pos_dev, Nat.mod_eq_of_lt hp]
  rw [emb_inBlk] at key
  exact key

end Cert.KernelIdeal.Own
end
-- ==== Proof.Whole.lean ====
module

public import proofs.«01_k».proof.Defs
public import proofs.«01_k».proof.Proof.Exact
public import proofs.«01_k».proof.Proof.Gen.ReferenceIdeal.Run
public import proofs.«01_k».proof.Proof.Gen.UnclippedIdeal.Run
public import Idealize.ShloMosaic.Lib.IdealHost

/-!
# The whole product and the references

The shares of the devices add up to the product of the whole arrays; the two references are read at an
element, and with small partial products the clipping of the first changes nothing.
-/

@[expose] public section

noncomputable section

namespace Cert.KernelIdeal.Own

open Idealize.ShloMosaic Cert.KernelIdeal Cert.KernelIdeal.Gen

/-- The product of the whole arrays at an element. -/
def dotAt (X W : S2048x2048.Idx → EReal) (i : S2048x2048.Idx) : EReal := ∑ k : Fin 2048, X (ix2 (i 0) k) * W (ix2 k (i 1))

/-- A sum over the whole contracted dimension, device by device. -/
theorem sum_cut (f : Fin 2048 → EReal) :
    ∑ d : Fin 16, ∑ k : Fin 128, f ⟨d.val * 128 + k.val, by omega⟩ = ∑ k, f k := by
  rw [← Fintype.sum_prod_type' (f := fun (d : Fin 16) (k : Fin 128) => f ⟨d.val * 128 + k.val, by omega⟩)]
  refine Fintype.sum_equiv (finProdFinEquiv (m := 16) (n := 128)) _ (fun k : Fin 2048 => f k) fun p => ?_
  refine congrArg f (Fin.ext ?_)
  show p.1.val * 128 + p.2.val = p.2.val + 128 * p.1.val
  omega

/-- The devices' shares of an element add up to the whole product. -/
theorem shares_sum (X W : S2048x2048.Idx → EReal) (xs : Dev nD → Vec Ideal S2048x128 .bf16)
    (ws : Dev nD → Vec Ideal S128x2048 .bf16)
    (hx : ∀ c, xs c = Layout.block ⟨2, ![2048, 128]⟩ ⟨2, ![2048, 2048]⟩ 1 16 c X)
    (hw : ∀ c, ws c = Layout.block ⟨2, ![128, 2048]⟩ ⟨2, ![2048, 2048]⟩ 0 16 c W) (i : S2048x2048.Idx) :
    ∑ d, share xs ws d i = dotAt X W i := by
  refine Eq.trans (Finset.sum_congr rfl fun d _ => ?_) (sum_cut fun k => X (ix2 (i 0) k) * W (ix2 k (i 1)))
  unfold share
  refine Finset.sum_congr rfl fun k _ => ?_
  rw [hx, hw, Layout.block_apply, Layout.block_apply]
  refine congrArg₂ (· * ·) (congrArg X (funext fun a => ?_)) (congrArg W (funext fun a => ?_))
  · fin_cases a <;> rfl
  · fin_cases a <;> rfl

/-! ## The references at an element -/

/-- The reference's result, of the whole arrays. -/
def refOut (X W : FVec Ideal S2048x2048 .bf16) : FVec Ideal S2048x2048 .f32 :=
  let y : FVec Ideal S2048x2048 .f32 := extf .f32 (truncf .bf16
    (Host.dotGeneral Cert.ReferenceIdeal.dot_S2048x2048_S2048x2048_S2048x2048_1_0_0_1_n_n none X W) bitsLt_bf16_f32) bitsLt_bf16_f32
  Host.divf y (addf (broadcastInDim S2048x2048 ![] Cert.ReferenceIdeal.Gen.bcast_S_S2048x2048 (constant S_ .f32 0x3F800000#32))
    (Host.exp (Host.negf (minimumf
      (broadcastInDim S2048x2048 ![] Cert.ReferenceIdeal.Gen.bcast_S_S2048x2048 (id (constant S_ .f32 0x42700000#32)))
      (maximumf (broadcastInDim S2048x2048 ![] Cert.ReferenceIdeal.Gen.bcast_S_S2048x2048 (id (constant S_ .f32 0xC2700000#32))) y)))))

/-- The result of the reference that clips nothing. -/
def plainOut (X W : FVec Ideal S2048x2048 .bf16) : FVec Ideal S2048x2048 .f32 :=
  let y : FVec Ideal S2048x2048 .f32 := extf .f32 (truncf .bf16
    (Host.dotGeneral Cert.UnclippedIdeal.dot_S2048x2048_S2048x2048_S2048x2048_1_0_0_1_n_n none X W) bitsLt_bf16_f32) bitsLt_bf16_f32
  Host.divf y (addf (broadcastInDim S2048x2048 ![] Cert.UnclippedIdeal.Gen.bcast_S_S2048x2048 (constant S_ .f32 0x3F800000#32))
    (Host.exp (Host.negf y)))

theorem bits_60 : Ideal.ofBits .f32 0x42700000#32 = ((60 : ℝ) : EReal) := by
  simp [Ideal.ofBits, Ideal.ieee, -EReal.coe_mul]; norm_num

theorem bits_neg_60 : Ideal.ofBits .f32 0xC2700000#32 = ((-60 : ℝ) : EReal) := by
  simp [Ideal.ofBits, Ideal.ieee, -EReal.coe_mul, -EReal.coe_neg]; norm_num

theorem bits_bound : Ideal.ofBits .f32 0x40700000#32 = ((3.75 : ℝ) : EReal) := by
  simp [Ideal.ofBits, Ideal.ieee, -EReal.coe_mul]; norm_num

theorem plainOut_at (X W : FVec Ideal S2048x2048 .bf16) (i : S2048x2048.Idx) : plainOut X W i = act (dotAt X W i) := by
  unfold plainOut act dotAt
  pointwise

theorem refOut_at (X W : FVec Ideal S2048x2048 .bf16) (i : S2048x2048.Idx) :
    refOut X W i = Ideal.div (dotAt X W i)
      (1 + Ideal.exp (-(min ((60 : ℝ) : EReal) (max ((-60 : ℝ) : EReal) (dotAt X W i))))) := by
  rw [← bits_60, ← bits_neg_60]
  unfold refOut dotAt
  pointwise
  rfl

/-! ## The precondition -/

instance pre_facts : Cert.Pre_small_products_KernelIdeal.Facts where
  bcast_S_S2048x2048 := by decide
  dot_S2048x128_S128x2048_S2048x2048_1_0_0_1_n_n_wf := by decide

instance pre_facts_ref : Cert.Pre_small_products_ReferenceIdeal.Facts where
  bcast_S_S2048x2048 := by decide
  dot_S2048x2048_S2048x2048_S2048x2048_1_0_0_1_n_n_wf := by decide

/-- Of a device that meets the precondition every share is at most 3.75 in size. -/
theorem share_small (xs : Dev nD → Vec Ideal S2048x128 .bf16) (ws : Dev nD → Vec Ideal S128x2048 .bf16) (d : Dev nD)
    (h : Cert.Pre_small_products_KernelIdeal.fn (F := Ideal) (xs d) (ws d) = fun _ => 1#1) (i : S2048x2048.Idx) :
    max (share xs ws d i) (-share xs ws d i) ≤ ((3.75 : ℝ) : EReal) := by
  have h1 := congrFun h i
  have h2 : Cert.Pre_small_products_KernelIdeal.fn (F := Ideal) (xs d) (ws d) i
      = Ideal.cmp .ole (max (share xs ws d i) (-share xs ws d i)) (Ideal.ofBits .f32 0x40700000#32) := by
    unfold Cert.Pre_small_products_KernelIdeal.fn share
    pointwise
    rfl
  rw [h2, bits_bound] at h1
  by_contra hn
  simp [Ideal.cmp, hn] at h1

/-- Sixteen shares of at most 3.75 in size add up to at most 60. -/
theorem total_small (g : Dev nD → EReal) (h : ∀ d, max (g d) (-g d) ≤ ((3.75 : ℝ) : EReal)) :
    ((-60 : ℝ) : EReal) ≤ ∑ d, g d ∧ ∑ d, g d ≤ ((60 : ℝ) : EReal) := by
  have hu : ∀ d, g d ≤ ((3.75 : ℝ) : EReal) := fun d => (le_max_left _ _).trans (h d)
  have hl : ∀ d, ((-3.75 : ℝ) : EReal) ≤ g d := fun d => by
    have := EReal.neg_le_neg_iff.mpr ((le_max_right _ _).trans (h d))
    rwa [neg_neg, ← EReal.coe_neg] at this
  have hc : ∀ r : ℝ, ∑ _d : Dev nD, (r : EReal) = ((16 * r : ℝ) : EReal) := fun r => by
    rw [Finset.sum_const, ← EReal.coe_nsmul, Finset.card_univ, nsmul_eq_mul]
    exact congrArg (fun n : ℕ => (((n : ℝ) * r : ℝ) : EReal)) (Fintype.card_fin 16)
  constructor
  · refine le_trans (le_of_eq ?_) (Finset.sum_le_sum fun d _ => hl d)
    rw [hc]; norm_num
  · refine (Finset.sum_le_sum fun d _ => hu d).trans (le_of_eq ?_)
    rw [hc]; norm_num

/-- Where every device meets the precondition, the clipping reference computes the plain activation. -/
theorem refOut_small (X W : FVec Ideal S2048x2048 .bf16) (xs : Dev nD → Vec Ideal S2048x128 .bf16)
    (ws : Dev nD → Vec Ideal S128x2048 .bf16)
    (hx : ∀ c, xs c = Layout.block ⟨2, ![2048, 128]⟩ ⟨2, ![2048, 2048]⟩ 1 16 c X)
    (hw : ∀ c, ws c = Layout.block ⟨2, ![128, 2048]⟩ ⟨2, ![2048, 2048]⟩ 0 16 c W)
    (h : ∀ c, Cert.Pre_small_products_KernelIdeal.fn (F := Ideal) (xs c) (ws c) = fun _ => 1#1) (i : S2048x2048.Idx) :
    refOut X W i = act (dotAt X W i) := by
  have ht := total_small (fun d => share xs ws d i) fun d => share_small xs ws d (h d) i
  rw [shares_sum X W xs ws hx hw] at ht
  rw [refOut_at, max_eq_right ht.1, min_eq_right ht.2]
  rfl

/-- On every device the kernel's result is the plain reference's. -/
theorem res_plain (X W : FVec Ideal S2048x2048 .bf16) (xs : Dev nD → Vec Ideal S2048x128 .bf16)
    (ws : Dev nD → Vec Ideal S128x2048 .bf16)
    (hx : ∀ c, xs c = Layout.block ⟨2, ![2048, 128]⟩ ⟨2, ![2048, 2048]⟩ 1 16 c X)
    (hw : ∀ c, ws c = Layout.block ⟨2, ![128, 2048]⟩ ⟨2, ![2048, 2048]⟩ 0 16 c W) (c : Dev nD) :
    res xs ws c = plainOut X W :=
  funext fun i => by rw [res_at, shares_sum X W xs ws hx hw, plainOut_at]

/-- With small partial products it is the clipping reference's too. -/
theorem res_ref (X W : FVec Ideal S2048x2048 .bf16) (xs : Dev nD → Vec Ideal S2048x128 .bf16)
    (ws : Dev nD → Vec Ideal S128x2048 .bf16)
    (hx : ∀ c, xs c = Layout.block ⟨2, ![2048, 128]⟩ ⟨2, ![2048, 2048]⟩ 1 16 c X)
    (hw : ∀ c, ws c = Layout.block ⟨2, ![128, 2048]⟩ ⟨2, ![2048, 2048]⟩ 0 16 c W)
    (h : ∀ c, Cert.Pre_small_products_KernelIdeal.fn (F := Ideal) (xs c) (ws c) = fun _ => 1#1) (c : Dev nD) :
    res xs ws c = refOut X W :=
  funext fun i => by rw [res_at, shares_sum X W xs ws hx hw, refOut_small X W xs ws hx hw h]

end Cert.KernelIdeal.Own

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Launch
public import proofs.«01_k».proof.Proof.Whole
public import Idealize.ShloMosaic.Adequacy
public import Idealize.ShloMosaic.Init
public import Idealize.ShloMosaic.Lib.Tactic

/-!
# The certificate

The claims of the certificate, each from the run of the whole kernel, the generated runs of the two
references and the value of the ring over the extended reals.
-/

@[expose] public section

noncomputable section

namespace Cert.Proof

open Idealize.ShloMosaic Idealize.SL.Sem

/-- For any float values the kernel runs to its end, keeps its arguments and leaves every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩)
    (Cert.KernelIdeal.Own.run_res (F := F) m ρ)

/-- The two texts of the kernel have one table of bodies. -/
theorem defs_same {F : FTy → Type} [FloatOps F] : Cert.Kernel.defs (F := F) = Cert.KernelIdeal.defs (F := F) := by
  sl_kernel_rfl

/-- So it does at the floats, -/
theorem frame_kernel : Cert.quiescent_Kernel := by
  intro m ρ _
  rw [defs_same]
  exact frame_any (F := Bits) m ρ

/-- over the extended reals, -/
theorem frame_ideal : Cert.quiescent_KernelIdeal := fun m ρ _ => frame_any (F := Ideal) m ρ

/-- the reference, -/
theorem frame_reference : Cert.quiescent_ReferenceIdeal :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- and the reference without the clipping. -/
theorem frame_unclipped : Cert.quiescent_UnclippedIdeal :=
  fun m ρ _ => (θ_run Cert.UnclippedIdeal.defs _ _).mono
    (fun r h => ⟨fun c => (h c).2, sem_eq_zero_of_no_sems (by decide) r.2⟩)
    (Cert.UnclippedIdeal.Value.run (F := Ideal) m ρ)

/-- With small partial products the kernel ends on every device with the reference's result. -/
theorem algebraic_reference : Cert.algebraic_KernelIdeal_ReferenceIdeal_pre_small_products_KernelIdeal := by
  intro m ρ m' ρ' hpre hagree
  refine ⟨Cert.KernelIdeal.Own.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (Cert.KernelIdeal.Own.run_res (F := Ideal) m ρ)
    exact Cert.KernelIdeal.Own.res_ref _ _ _ _ (fun c => (hagree c).1) (fun c => (hagree c).2) hpre c
  · exact (θ_run Cert.ReferenceIdeal.defs _ _).mono (fun _ h => h 0) (Cert.ReferenceIdeal.Value.run (F := Ideal) m' ρ')

/-- For any arguments the kernel ends on every device with the result of the reference without the clipping. -/
theorem algebraic_unclipped : Cert.algebraic_KernelIdeal_UnclippedIdeal := by
  intro m ρ m' ρ' _ hagree
  refine ⟨Cert.KernelIdeal.Own.plainOut (m' (((0 : Dev Cert.UnclippedIdeal.nD).tc : Thread _ Cert.UnclippedIdeal.τ).loc Cert.UnclippedIdeal.main_arg0))
    (m' (((0 : Dev Cert.UnclippedIdeal.nD).tc : Thread _ Cert.UnclippedIdeal.τ).loc Cert.UnclippedIdeal.main_arg1)), ?_, ?_⟩
  · refine (θ_run Cert.KernelIdeal.defs _ _).mono (fun _ h c => ⟨(h.1 c).2.2.trans ?_, (h.1 c).1, (h.1 c).2.1⟩)
      (Cert.KernelIdeal.Own.run_res (F := Ideal) m ρ)
    exact Cert.KernelIdeal.Own.res_plain _ _ _ _ (fun c => (hagree c).1) (fun c => (hagree c).2) c
  · exact (θ_run Cert.UnclippedIdeal.defs _ _).mono (fun _ h => h 0) (Cert.UnclippedIdeal.Value.run (F := Ideal) m' ρ')

/-- Everything the certificate claims. -/
theorem claim : Cert.Claim :=
  ⟨Cert.Kernel.Gen.facts, Cert.KernelIdeal.Gen.facts, Cert.ReferenceIdeal.Gen.facts, Cert.UnclippedIdeal.Gen.facts,
    Cert.KernelIdeal.Own.pre_facts, Cert.KernelIdeal.Own.pre_facts_ref,
    frame_kernel, frame_ideal, fun m ρ _ => frame_ideal m ρ trivial, frame_reference,
    fun m ρ _ => frame_reference m ρ trivial, frame_unclipped, trivial, algebraic_reference, algebraic_unclipped⟩

end Cert.Proof

end
